-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S8x16x32x64 : Shape := ⟨4, ![8, 16, 32, 64]⟩
abbrev S8x16x32x1 : Shape := ⟨4, ![8, 16, 32, 1]⟩
abbrev S8x16x32 : Shape := ⟨3, ![8, 16, 32]⟩
abbrev S8x16x1x32 : Shape := ⟨4, ![8, 16, 1, 32]⟩
abbrev S64 : Shape := ⟨1, ![64]⟩
abbrev S1x1x64x1 : Shape := ⟨4, ![1, 1, 64, 1]⟩
abbrev S8x16x64x32 : Shape := ⟨4, ![8, 16, 64, 32]⟩
abbrev S8x16x1x32x64 : Shape := ⟨5, ![8, 16, 1, 32, 64]⟩
abbrev S8x16x64x32x1 : Shape := ⟨5, ![8, 16, 64, 32, 1]⟩
abbrev S8x16x64x32x64 : Shape := ⟨5, ![8, 16, 64, 32, 64]⟩
abbrev S_ : Shape := ⟨0, ![]⟩
abbrev S8x16x64x64 : Shape := ⟨4, ![8, 16, 64, 64]⟩

class Facts : Prop where
  sliceFits_S8x16x32x64_S8x16x32x1 : S8x16x32x64.Slices (fun _ => 0) S8x16x32x1
  shapeCasts_S8x16x32x1_S8x16x32 : S8x16x32x1.ShapeCasts S8x16x32
  bcast_S8x16x32_S8x16x1x32_0_1_3 : S8x16x32.BroadcastsInDim S8x16x1x32 (![0, 1, 3] : Fin 3 → Fin S8x16x1x32.rank)
  bcast_S64_S1x1x64x1_2 : S64.BroadcastsInDim S1x1x64x1 (![2] : Fin 1 → Fin S1x1x64x1.rank)
  bcast_S8x16x1x32_S8x16x64x32_0_1_2_3 : S8x16x1x32.BroadcastsInDim S8x16x64x32 (![0, 1, 2, 3] : Fin 4 → Fin S8x16x64x32.rank)
  bcast_S1x1x64x1_S8x16x64x32_0_1_2_3 : S1x1x64x1.BroadcastsInDim S8x16x64x32 (![0, 1, 2, 3] : Fin 4 → Fin S8x16x64x32.rank)
  bcast_S8x16x32x64_S8x16x1x32x64_0_1_3_4 : S8x16x32x64.BroadcastsInDim S8x16x1x32x64 (![0, 1, 3, 4] : Fin 4 → Fin S8x16x1x32x64.rank)
  bcast_S8x16x64x32_S8x16x64x32x1_0_1_2_3 : S8x16x64x32.BroadcastsInDim S8x16x64x32x1 (![0, 1, 2, 3] : Fin 4 → Fin S8x16x64x32x1.rank)
  bcast_S8x16x1x32x64_S8x16x64x32x64_0_1_2_3_4 : S8x16x1x32x64.BroadcastsInDim S8x16x64x32x64 (![0, 1, 2, 3, 4] : Fin 5 → Fin S8x16x64x32x64.rank)
  bcast_S8x16x64x32x1_S8x16x64x32x64_0_1_2_3_4 : S8x16x64x32x1.BroadcastsInDim S8x16x64x32x64 (![0, 1, 2, 3, 4] : Fin 5 → Fin S8x16x64x32x64.rank)
  reducesTo_S8x16x64x32x64_S8x16x64x64_d3 : S8x16x64x32x64.ReducesTo [3] S8x16x64x64
  h_S_ : 0 < S_.numel
  bcast_S_S8x16x32x64 : S_.BroadcastsInDim S8x16x32x64 (![] : Fin 0 → Fin S8x16x32x64.rank)
  dot_S8x16x32x64_S8x16x64x64_S8x16x32x64_3_3_2_2_01_01_wf : DotDims.WF S8x16x32x64 S8x16x64x64 S8x16x32x64 [3] [3] [2] [2] [0, 1] [0, 1]

variable [Facts]

def dot_S8x16x32x64_S8x16x64x64_S8x16x32x64_3_3_2_2_01_01 : DotDims S8x16x32x64 S8x16x64x64 S8x16x32x64 where
  lhsContracting := [3]
  rhsContracting := [3]
  lhsNonContracting := [2]
  rhsNonContracting := [2]
  lhsBatch := [0, 1]
  rhsBatch := [0, 1]
  wf := dot_S8x16x32x64_S8x16x64x64_S8x16x32x64_3_3_2_2_01_01_wf
def fn_part1 {F : FTy → Type} [FloatOps F] (main_v17 : FVec F S8x16x32x64 .f32) (main_v18 : FVec F S8x16x32x64 .f32) (main_cst_1 : FVec F S_ .f32) : IVec S8x16x32x64 1 × IVec S8x16x32x64 1 :=
  let main_v19 : FVec F S8x16x32x64 .f32 := broadcastInDim S8x16x32x64 ![] bcast_S_S8x16x32x64 main_cst_1
  let main_v20 : IVec S8x16x32x64 1 := cmpf .olt main_v18 main_v19
  let main_cst_2 : FVec F S_ .f32 := constant S_ .f32 0x00000000#32
  let main_v21 : FVec F S8x16x32x64 .f32 := broadcastInDim S8x16x32x64 ![] bcast_S_S8x16x32x64 main_cst_2
  let main_v22 : IVec S8x16x32x64 1 := cmpf .une main_v17 main_v21
  (main_v20, main_v22)

def fn {F : FTy → Type} [FloatOps F] (main_arg0 : FVec F S8x16x32x64 .f32) (main_arg1 : FVec F S8x16x32x64 .f32) (main_arg2 : FVec F S8x16x32x64 .f32) : IVec S8x16x32x64 1 × IVec S8x16x32x64 1 :=
  let main_v0 : FVec F S8x16x32x64 .f32 := Host.absf main_arg0
  let main_values : FVec F S8x16x32x1 .f32 := (fun x => (Host.topK S8x16x32x1 3 (FloatOps.cmpfTotal .gt) x sliceFits_S8x16x32x64_S8x16x32x1).1) main_v0
  let main_indices : IVec S8x16x32x1 32 := (fun x => (Host.topK S8x16x32x1 3 (FloatOps.cmpfTotal .gt) x sliceFits_S8x16x32x64_S8x16x32x1).2) main_v0
  let main_v1 : IVec S8x16x32 32 := shapeCast S8x16x32 main_indices shapeCasts_S8x16x32x1_S8x16x32
  let main_v2 : IVec S8x16x1x32 32 := broadcastInDim S8x16x1x32 ![0, 1, 3] bcast_S8x16x32_S8x16x1x32_0_1_3 main_v1
  let main_v3 : IVec S64 32 := iotaInDim S64 32 0
  let main_v4 : IVec S1x1x64x1 32 := broadcastInDim S1x1x64x1 ![2] bcast_S64_S1x1x64x1_2 main_v3
  let main_v5 : IVec S8x16x64x32 32 := broadcastInDim S8x16x64x32 ![0, 1, 2, 3] bcast_S8x16x1x32_S8x16x64x32_0_1_2_3 main_v2
  let main_v6 : IVec S8x16x64x32 32 := broadcastInDim S8x16x64x32 ![0, 1, 2, 3] bcast_S1x1x64x1_S8x16x64x32_0_1_2_3 main_v4
  let main_v7 : IVec S8x16x64x32 1 := cmpi .eq main_v5 main_v6
  let main_v8 : FVec F S8x16x64x32 .f32 := uitofp .f32 main_v7
  let main_v9 : FVec F S8x16x1x32x64 .f32 := broadcastInDim S8x16x1x32x64 ![0, 1, 3, 4] bcast_S8x16x32x64_S8x16x1x32x64_0_1_3_4 main_arg0
  let main_v10 : FVec F S8x16x64x32x1 .f32 := broadcastInDim S8x16x64x32x1 ![0, 1, 2, 3] bcast_S8x16x64x32_S8x16x64x32x1_0_1_2_3 main_v8
  let main_v11 : FVec F S8x16x64x32x64 .f32 := broadcastInDim S8x16x64x32x64 ![0, 1, 2, 3, 4] bcast_S8x16x1x32x64_S8x16x64x32x64_0_1_2_3_4 main_v9
  let main_v12 : FVec F S8x16x64x32x64 .f32 := broadcastInDim S8x16x64x32x64 ![0, 1, 2, 3, 4] bcast_S8x16x64x32x1_S8x16x64x32x64_0_1_2_3_4 main_v10
  let main_v13 : FVec F S8x16x64x32x64 .f32 := mulf main_v11 main_v12
  let main_cst : FVec F S_ .f32 := constant S_ .f32 0x00000000#32
  let main_v14 : FVec F S8x16x64x64 .f32 := (fun x v => Host.reduceAdd x v reducesTo_S8x16x64x32x64_S8x16x64x64_d3 h_S_) main_v13 main_cst
  let main_v15 : FVec F S8x16x32x64 .f32 := (fun l r => Host.dotGeneral dot_S8x16x32x64_S8x16x64x64_S8x16x32x64_3_3_2_2_01_01 none l r) main_arg2 main_v14
  let main_cst_0 : FVec F S_ .f32 := constant S_ .f32 0x358637BD#32
  let main_v16 : FVec F S8x16x32x64 .f32 := broadcastInDim S8x16x32x64 ![] bcast_S_S8x16x32x64 main_cst_0
  let main_v17 : FVec F S8x16x32x64 .f32 := addf main_v15 main_v16
  let main_v18 : FVec F S8x16x32x64 .f32 := Host.absf main_arg2
  let main_cst_1 : FVec F S_ .f32 := constant S_ .f32 0x7F800000#32
  fn_part1 (F := F) main_v17 main_v18 main_cst_1
-- ==== Kernel.lean ====
abbrev S8x16x32x64 : Shape := ⟨4, ![8, 16, 32, 64]⟩
abbrev S128x32x64 : Shape := ⟨3, ![128, 32, 64]⟩
abbrev S8x32x64 : Shape := ⟨3, ![8, 32, 64]⟩
abbrev S256x64 : Shape := ⟨2, ![256, 64]⟩
abbrev S256 : Shape := ⟨1, ![256]⟩
abbrev S256x1 : Shape := ⟨2, ![256, 1]⟩
abbrev S32x64 : Shape := ⟨2, ![32, 64]⟩
abbrev S64x32 : Shape := ⟨2, ![64, 32]⟩
abbrev S64x32x1 : Shape := ⟨3, ![64, 32, 1]⟩
abbrev S1x32x64 : Shape := ⟨3, ![1, 32, 64]⟩
abbrev S64x32x64 : Shape := ⟨3, ![64, 32, 64]⟩
abbrev S64x64x64 : Shape := ⟨3, ![64, 64, 64]⟩
abbrev S64x64x32 : Shape := ⟨3, ![64, 64, 32]⟩
abbrev S64x64 : Shape := ⟨2, ![64, 64]⟩
abbrev S32x1x64 : Shape := ⟨3, ![32, 1, 64]⟩
abbrev S1x64x64 : Shape := ⟨3, ![1, 64, 64]⟩
abbrev S32x64x64 : Shape := ⟨3, ![32, 64, 64]⟩
abbrev S32x1 : Shape := ⟨2, ![32, 1]⟩
abbrev S64x1x32 : Shape := ⟨3, ![64, 1, 32]⟩

abbrev nBuf : Space → Nat
  | .hbm => 7
  | .vmem => 8
  | .smem => 0
  | _ => 0

abbrev bufTy : (tb : Table) → Fin (tcTables nBuf tb) → BufTy
  | .hbm, ⟨0, _⟩ => ⟨S8x16x32x64, .f32⟩
  | .hbm, ⟨1, _⟩ => ⟨S8x16x32x64, .f32⟩
  | .hbm, ⟨2, _⟩ => ⟨S8x16x32x64, .f32⟩
  | .hbm, ⟨3, _⟩ => ⟨S128x32x64, .f32⟩
  | .hbm, ⟨4, _⟩ => ⟨S128x32x64, .f32⟩
  | .hbm, ⟨5, _⟩ => ⟨S128x32x64, .f32⟩
  | .hbm, ⟨6, _⟩ => ⟨S128x32x64, .f32⟩
  | .local _ .vmem, ⟨0, _⟩ => ⟨S8x32x64, .f32⟩
  | .local _ .vmem, ⟨1, _⟩ => ⟨S8x32x64, .f32⟩
  | .local _ .vmem, ⟨2, _⟩ => ⟨S8x32x64, .f32⟩
  | .local _ .vmem, ⟨3, _⟩ => ⟨S8x32x64, .f32⟩
  | .local _ .vmem, ⟨4, _⟩ => ⟨S8x32x64, .f32⟩
  | .local _ .vmem, ⟨5, _⟩ => ⟨S8x32x64, .f32⟩
  | .local _ .vmem, ⟨6, _⟩ => ⟨S8x32x64, .f32⟩
  | .local _ .vmem, ⟨7, _⟩ => ⟨S8x32x64, .f32⟩
  | _, _ => ⟨S8x16x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x16x32x64 : Shape := ⟨4, ![8, 16, 32, 64]⟩
abbrev S_ : Shape := ⟨0, ![]⟩
abbrev S8x16x64x64x64 : Shape := ⟨5, ![8, 16, 64, 64, 64]⟩
abbrev S8x16x64x64 : Shape := ⟨4, ![8, 16, 64, 64]⟩
abbrev S8x16x32x1 : Shape := ⟨4, ![8, 16, 32, 1]⟩
abbrev S8x16x32 : Shape := ⟨3, ![8, 16, 32]⟩
abbrev S8x16x1x32 : Shape := ⟨4, ![8, 16, 1, 32]⟩
abbrev S64 : Shape := ⟨1, ![64]⟩
abbrev S1x1x64x1 : Shape := ⟨4, ![1, 1, 64, 1]⟩
abbrev S8x16x64x32 : Shape := ⟨4, ![8, 16, 64, 32]⟩
abbrev S8x16x64x32x1 : Shape := ⟨5, ![8, 16, 64, 32, 1]⟩
abbrev S8x16x1x32x64 : Shape := ⟨5, ![8, 16, 1, 32, 64]⟩
abbrev S8x16x64x32x64 : Shape := ⟨5, ![8, 16, 64, 32, 64]⟩
abbrev S8x16x32x8 : Shape := ⟨4, ![8, 16, 32, 8]⟩
abbrev S8 : Shape := ⟨1, ![8]⟩
abbrev S8x1x1x1 : Shape := ⟨4, ![8, 1, 1, 1]⟩
abbrev S16 : Shape := ⟨1, ![16]⟩
abbrev S1x16x1x1 : Shape := ⟨4, ![1, 16, 1, 1]⟩
abbrev S8x16x32x8x1 : Shape := ⟨5, ![8, 16, 32, 8, 1]⟩
abbrev S8x16x32x8x3 : Shape := ⟨5, ![8, 16, 32, 8, 3]⟩
abbrev S8x16x32x8x64x64 : Shape := ⟨6, ![8, 16, 32, 8, 64, 64]⟩
abbrev S8x16x32x8x64 : Shape := ⟨5, ![8, 16, 32, 8, 64]⟩
abbrev S128x32x64 : Shape := ⟨3, ![128, 32, 64]⟩

abbrev nBuf : Space → Nat
  | .hbm => 136
  | .vmem => 0
  | .smem => 0
  | _ => 0

abbrev hbmTy0_0 (i : Nat) : BufTy := match i % 128 with
  | 0 => ⟨S8x16x32x64, .f32⟩
  | 1 => ⟨S8x16x32x64, .f32⟩
  | 2 => ⟨S8x16x32x64, .f32⟩
  | 3 => ⟨S_, .f32⟩
  | 4 => ⟨S8x16x64x64x64, .f32⟩
  | 5 => ⟨S_, .f32⟩
  | 6 => ⟨S8x16x64x64, .f32⟩
  | 7 => ⟨S8x16x32x64, .f32⟩
  | 8 => ⟨S8x16x32x1, .f32⟩
  | 9 => ⟨S8x16x32x1, .i32⟩
  | 10 => ⟨S8x16x32, .i32⟩
  | 11 => ⟨S8x16x1x32, .i32⟩
  | 12 => ⟨S64, .i32⟩
  | 13 => ⟨S1x1x64x1, .i32⟩
  | 14 => ⟨S8x16x64x32, .i32⟩
  | 15 => ⟨S8x16x64x32, .i32⟩
  | 16 => ⟨S8x16x64x32, .i1⟩
  | 17 => ⟨S8x16x64x32x1, .i1⟩
  | 18 => ⟨S8x16x64x32x1, .f32⟩
  | 19 => ⟨S8x16x1x32x64, .f32⟩
  | 20 => ⟨S8x16x64x32x64, .f32⟩
  | 21 => ⟨S8x16x64x32x64, .f32⟩
  | 22 => ⟨S8x16x64x32x64, .f32⟩
  | 23 => ⟨S8x16x1x32x64, .f32⟩
  | 24 => ⟨S8x16x64x32x64, .f32⟩
  | 25 => ⟨S8x16x64x32x64, .f32⟩
  | 26 => ⟨S8x16x64x32x64, .f32⟩
  | 27 => ⟨S8x16x64x32x64, .f32⟩
  | 28 => ⟨S8x16x64x32, .f32⟩
  | 29 => ⟨S8x16x64x32x1, .f32⟩
  | 30 => ⟨S_, .f32⟩
  | 31 => ⟨S8x16x64x32x1, .f32⟩
  | 32 => ⟨S8x16x64x32x1, .f32⟩
  | 33 => ⟨S8x16x64x32x64, .f32⟩
  | 34 => ⟨S8x16x64x32x64, .f32⟩
  | 35 => ⟨S8x16x64x32x64, .i1⟩
  | 36 => ⟨S_, .f32⟩
  | 37 => ⟨S8x16x64x32x64, .f32⟩
  | 38 => ⟨S8x16x64x32x64, .f32⟩
  | 39 => ⟨S8x16x64x32x64, .f32⟩
  | 40 => ⟨S8x16x64x64x64, .f32⟩
  | 41 => ⟨S8x16x64x64x64, .f32⟩
  | 42 => ⟨S_, .f32⟩
  | 43 => ⟨S8x16x64x64, .f32⟩
  | 44 => ⟨S8x16x64x64, .f32⟩
  | 45 => ⟨S8x16x32x64, .f32⟩
  | 46 => ⟨S8x16x32x8, .f32⟩
  | 47 => ⟨S8x16x32x8, .i32⟩
  | 48 => ⟨S_, .f32⟩
  | 49 => ⟨S8x16x32, .f32⟩
  | 50 => ⟨S_, .f32⟩
  | 51 => ⟨S8x16x32, .f32⟩
  | 52 => ⟨S8x16x32, .f32⟩
  | 53 => ⟨S8x16x32x1, .f32⟩
  | 54 => ⟨S8x16x32x8, .f32⟩
  | 55 => ⟨S8x16x32x8, .f32⟩
  | 56 => ⟨S8x16x32x8, .f32⟩
  | 57 => ⟨S_, .f32⟩
  | 58 => ⟨S8x16x32, .f32⟩
  | 59 => ⟨S8x16x32x1, .f32⟩
  | 60 => ⟨S8x16x32x8, .f32⟩
  | 61 => ⟨S8x16x32x8, .f32⟩
  | 62 => ⟨S8, .i32⟩
  | 63 => ⟨S8x1x1x1, .i32⟩
  | 64 => ⟨S16, .i32⟩
  | 65 => ⟨S1x16x1x1, .i32⟩
  | 66 => ⟨S_, .i32⟩
  | 67 => ⟨S8x1x1x1, .i32⟩
  | 68 => ⟨S8x1x1x1, .i1⟩
  | 69 => ⟨S_, .i32⟩
  | 70 => ⟨S8x1x1x1, .i32⟩
  | 71 => ⟨S8x1x1x1, .i32⟩
  | 72 => ⟨S8x1x1x1, .i32⟩
  | 73 => ⟨S_, .i32⟩
  | 74 => ⟨S1x16x1x1, .i32⟩
  | 75 => ⟨S1x16x1x1, .i1⟩
  | 76 => ⟨S_, .i32⟩
  | 77 => ⟨S1x16x1x1, .i32⟩
  | 78 => ⟨S1x16x1x1, .i32⟩
  | 79 => ⟨S1x16x1x1, .i32⟩
  | 80 => ⟨S_, .i32⟩
  | 81 => ⟨S8x16x32x8, .i32⟩
  | 82 => ⟨S8x16x32x8, .i1⟩
  | 83 => ⟨S_, .i32⟩
  | 84 => ⟨S8x16x32x8, .i32⟩
  | 85 => ⟨S8x16x32x8, .i32⟩
  | 86 => ⟨S8x16x32x8, .i32⟩
  | 87 => ⟨S8x16x32x8, .i32⟩
  | 88 => ⟨S8x16x32x8, .i32⟩
  | 89 => ⟨S8x16x32x8x1, .i32⟩
  | 90 => ⟨S8x16x32x8x1, .i32⟩
  | 91 => ⟨S8x16x32x8x1, .i32⟩
  | 92 => ⟨S8x16x32x8x3, .i32⟩
  | 93 => ⟨S8x16x32x8x64x64, .f32⟩
  | 94 => ⟨S_, .i32⟩
  | 95 => ⟨S8x1x1x1, .i32⟩
  | 96 => ⟨S8x1x1x1, .i1⟩
  | 97 => ⟨S_, .i32⟩
  | 98 => ⟨S8x1x1x1, .i32⟩
  | 99 => ⟨S8x1x1x1, .i32⟩
  | 100 => ⟨S8x1x1x1, .i32⟩
  | 101 => ⟨S_, .i32⟩
  | 102 => ⟨S1x16x1x1, .i32⟩
  | 103 => ⟨S1x16x1x1, .i1⟩
  | 104 => ⟨S_, .i32⟩
  | 105 => ⟨S1x16x1x1, .i32⟩
  | 106 => ⟨S1x16x1x1, .i32⟩
  | 107 => ⟨S1x16x1x1, .i32⟩
  | 108 => ⟨S_, .i32⟩
  | 109 => ⟨S8x16x32x8, .i32⟩
  | 110 => ⟨S8x16x32x8, .i1⟩
  | 111 => ⟨S_, .i32⟩
  | 112 => ⟨S8x16x32x8, .i32⟩
  | 113 => ⟨S8x16x32x8, .i32⟩
  | 114 => ⟨S8x16x32x8, .i32⟩
  | 115 => ⟨S8x16x32x8, .i32⟩
  | 116 => ⟨S8x16x32x8, .i32⟩
  | 117 => ⟨S8x16x32x8x1, .i32⟩
  | 118 => ⟨S8x16x32x8x1, .i32⟩
  | 119 => ⟨S8x16x32x8x1, .i32⟩
  | 120 => ⟨S8x16x32x8x3, .i32⟩
  | 121 => ⟨S8x16x32x8x64, .f32⟩
  | 122 => ⟨S8x16x32x8x64, .f32⟩
  | 123 => ⟨S8x16x32x8, .f32⟩
  | 124 => ⟨S8x16x32x8x1, .f32⟩
  | 125 => ⟨S_, .f32⟩
  | 126 => ⟨S8x16x32x8x1, .f32⟩
  | 127 => ⟨S8x16x32x8x1, .f32⟩
  | _ => ⟨S8x16x32x64, .f32⟩

abbrev hbmTy0_1 (i : Nat) : BufTy := match i % 128 with
  | 0 => ⟨S8x16x32x8x64, .f32⟩
  | 1 => ⟨S8x16x32x8x64, .f32⟩
  | 2 => ⟨S8x16x32x8x1, .f32⟩
  | 3 => ⟨S8x16x32x8x64, .f32⟩
  | 4 => ⟨S8x16x32x8x64, .f32⟩
  | 5 => ⟨S_, .f32⟩
  | 6 => ⟨S8x16x32x64, .f32⟩
  | 7 => ⟨S128x32x64, .f32⟩
  | _ => ⟨S8x16x32x64, .f32⟩

abbrev hbmTy (i : Nat) : BufTy := match i / 128 with
  | 0 => hbmTy0_0 i
  | 1 => hbmTy0_1 i
  | _ => ⟨S8x16x32x64, .f32⟩

abbrev bufTy : (tb : Table) → Fin (tcTables nBuf tb) → BufTy
  | .hbm, ⟨i, _⟩ => hbmTy i
  | _, _ => ⟨S8x16x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_values : Ref sig .tc := ⟨.hbm, 8, rfl⟩
abbrev main_indices : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_values_4 : Ref sig .tc := ⟨.hbm, 46, rfl⟩
abbrev main_indices_5 : Ref sig .tc := ⟨.hbm, 47, rfl⟩
abbrev main_cst_6 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c : Ref sig .tc := ⟨.hbm, 66, rfl⟩
abbrev main_v51 : Ref sig .tc := ⟨.hbm, 67, rfl⟩
abbrev main_v52 : Ref sig .tc := ⟨.hbm, 68, rfl⟩
abbrev main_c_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_10 : Ref sig .tc := ⟨.hbm, 73, rfl⟩
abbrev main_v56 : Ref sig .tc := ⟨.hbm, 74, rfl⟩
abbrev main_v57 : Ref sig .tc := ⟨.hbm, 75, rfl⟩
abbrev main_c_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_c_12 : Ref sig .tc := ⟨.hbm, 80, rfl⟩
abbrev main_v61 : Ref sig .tc := ⟨.hbm, 81, rfl⟩
abbrev main_v62 : Ref sig .tc := ⟨.hbm, 82, rfl⟩
abbrev main_c_13 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_c_14 : Ref sig .tc := ⟨.hbm, 94, rfl⟩
abbrev main_v73 : Ref sig .tc := ⟨.hbm, 95, rfl⟩
abbrev main_v74 : Ref sig .tc := ⟨.hbm, 96, rfl⟩
abbrev main_c_15 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_16 : Ref sig .tc := ⟨.hbm, 101, rfl⟩
abbrev main_v78 : Ref sig .tc := ⟨.hbm, 102, rfl⟩
abbrev main_v79 : Ref sig .tc := ⟨.hbm, 103, rfl⟩
abbrev main_c_17 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_c_18 : Ref sig .tc := ⟨.hbm, 108, rfl⟩
abbrev main_v83 : Ref sig .tc := ⟨.hbm, 109, rfl⟩
abbrev main_v84 : Ref sig .tc := ⟨.hbm, 110, rfl⟩
abbrev main_c_19 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_20 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_21 : Ref sig .tc := ⟨.hbm, 133, rfl⟩
abbrev main_v105 : Ref sig .tc := ⟨.hbm, 134, rfl⟩
abbrev main_v106 : Ref sig .tc := ⟨.hbm, 135, rfl⟩

abbrev nD : Nat := 1
abbrev τ : Topo := Topo.v7x

variable {F : FTy → Type} [FloatOps F]
-- ==== Proof.Column.lean ====
/-
  One row of 64 scores, and what "the greatest, then the next greatest, ..." means of it.

  A stable descending sort of the row names a permutation `pick x` of its 64 positions: `pick x 0` is the first
  position of the greatest score, `pick x 1` of the greatest among the rest, and so on. Taking the first position of
  the maximum again and again, each time striking out what was taken, walks through the same permutation. Both
  programs' selections are read off it.
-/
module

public import Idealize.ShloMosaic.PureOps
public import Idealize.ShloMosaic.PureOps.Ideal
public import Idealize.ShloMosaic.Lib.SortFacts
public import Idealize.ShloMosaic.Lib.Pointwise

@[expose] public section

noncomputable section

namespace Obm

open Idealize.ShloMosaic

/-- Position `k` is sorted before position `k'`: its score is greater. -/
def before (x : Fin 64 → EReal) (k k' : Fin 64) : Bool := decide (x k' < x k)

/-- The same with ties settled: a greater score, or an equal score at an earlier position. -/
def settled (x : Fin 64 → EReal) (k k' : Fin 64) : Bool := decide (x k' < x k ∨ (x k = x k' ∧ k < k'))

/-- The position a stable descending sort of the row puts at place `t`. -/
def pick (x : Fin 64 → EReal) (t : Fin 64) : Fin 64 := sortedFrom (before x) t

/-- On a list of increasing positions, the stable sort settles ties by position. -/
theorem stableSort_settled (x : Fin 64 → EReal) (l : List (Fin 64)) (hl : l.Pairwise (· < ·)) :
    stableSort (before x) l = stableSort (settled x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have hn : ¬ b < a := not_lt.mpr hab.le
    simp only [before, settled, hn, and_false, or_false]

/-- Sorts that list the positions alike take each place from the same position. -/
theorem sortedFrom_of_positions {n : ℕ} (R R' : Fin n → Fin n → Bool) (h : sortPositions n R = sortPositions n R')
    (t : Fin n) : sortedFrom R t = sortedFrom R' t := by
  unfold sortedFrom
  rw [List.get_of_eq h]
  rfl

/-- The two sorts name the same positions. -/
theorem pick_settled (x : Fin 64 → EReal) : pick x = sortedFrom (settled x) :=
  funext fun t => sortedFrom_of_positions _ _ (stableSort_settled x _ (List.pairwise_lt_finRange 64)) t

/-- No position is picked twice. -/
theorem pick_injective (x : Fin 64 → EReal) : Function.Injective (pick x) := sortedFrom_injective _

/-- Every position is picked at some place. -/
theorem pick_surjective (x : Fin 64 → EReal) : Function.Surjective (pick x) := sortedFrom_surjective _

/-- An earlier pick has a greater score, or the same score and an earlier position. -/
theorem pick_order (x : Fin 64 → EReal) {a b : Fin 64} (hab : a < b) :
    x (pick x b) < x (pick x a) ∨ (x (pick x b) = x (pick x a) ∧ pick x a < pick x b) := by
  have hne : pick x a ≠ pick x b := fun h => hab.ne (pick_injective x h)
  have h := sortedFrom_noInversion (settled x) (settled x) ?_ (fun _ _ h => h) ?_ a b hab
  · rw [← pick_settled] at h
    simp only [settled, decide_eq_false_iff_not, not_or, not_lt, not_and] at h
    rcases lt_or_eq_of_le h.1 with hlt | heq
    · exact Or.inl hlt
    · exact Or.inr ⟨heq, lt_of_le_of_ne (h.2 heq) hne⟩
  · intro a b hR
    simp only [settled, decide_eq_true_eq, decide_eq_false_iff_not, not_or, not_lt, not_and] at hR ⊢
    rcases hR with h | ⟨h, h'⟩
    · exact ⟨h.le, fun e => absurd e h.ne⟩
    · exact ⟨h.ge, fun _ => h'.le⟩
  · intro a b c hab hbc
    simp only [settled, decide_eq_false_iff_not, not_or, not_lt, not_and] at hab hbc ⊢
    refine ⟨hab.1.trans hbc.1, fun e => ?_⟩
    have h1 : x a = x b := le_antisymm hab.1 (e ▸ hbc.1)
    exact (hbc.2 (h1 ▸ e)).trans (hab.2 h1)

/-- The row with the first `t` picks struck out. -/
def rest (x : Fin 64 → EReal) (t : ℕ) (i : Fin 64) : EReal :=
  if ∃ r : Fin 64, r.val < t ∧ pick x r = i then ⊥ else x i

/-- Nothing is struck out at first. -/
theorem rest_zero (x : Fin 64 → EReal) : rest x 0 = x := by
  funext i
  simp [rest]

/-- Striking out one more pick. -/
theorem rest_succ (x : Fin 64 → EReal) (t : Fin 64) (i : Fin 64) :
    rest x (t.val + 1) i = if i = pick x t then ⊥ else rest x t.val i := by
  unfold rest
  by_cases h : i = pick x t
  · rw [if_pos ⟨t, Nat.lt_succ_self _, h.symm⟩, if_pos h]
  · rw [if_neg h]
    refine if_congr ⟨?_, ?_⟩ rfl rfl
    · rintro ⟨r, hr, e⟩
      refine ⟨r, lt_of_le_of_ne (Nat.lt_succ_iff.mp hr) fun e' => h ?_, e⟩
      rw [← e, Fin.ext e']
    · rintro ⟨r, hr, e⟩
      exact ⟨r, hr.trans (Nat.lt_succ_self _), e⟩

/-- The next pick still has its score. -/
theorem rest_pick (x : Fin 64 → EReal) (t : Fin 64) : rest x t.val (pick x t) = x (pick x t) := by
  unfold rest
  rw [if_neg]
  rintro ⟨r, hr, e⟩
  exact absurd (pick_injective x e) (Fin.ne_of_lt hr)

/-- A position still in play is picked now or later. -/
theorem place_of_rest (x : Fin 64 → EReal) (t : Fin 64) (i : Fin 64) (hi : rest x t.val i ≠ ⊥) :
    ∃ k, t ≤ k ∧ pick x k = i ∧ rest x t.val i = x i := by
  obtain ⟨k, hk⟩ := pick_surjective x i
  unfold rest at hi ⊢
  by_cases h : ∃ r : Fin 64, r.val < t.val ∧ pick x r = i
  · rw [if_pos h] at hi; exact absurd rfl hi
  · refine ⟨k, ?_, hk, if_neg h⟩
    by_contra hlt
    exact h ⟨k, not_le.mp hlt, hk⟩

/-- The next pick's score bounds what is left. -/
theorem rest_le (x : Fin 64 → EReal) (t : Fin 64) (i : Fin 64) : rest x t.val i ≤ x (pick x t) := by
  by_cases hi : rest x t.val i = ⊥
  · rw [hi]; exact bot_le
  · obtain ⟨k, hk, e, hr⟩ := place_of_rest x t i hi
    rw [hr, ← e]
    rcases eq_or_lt_of_le hk with rfl | hlt
    · exact le_rfl
    · rcases pick_order x hlt with h | h
      · exact h.le
      · exact h.1.le

/-- The maximum of what is left is the next pick's score. -/
theorem top_rest (x : Fin 64 → EReal) (t : Fin 64) :
    Finset.univ.fold max ⊥ (rest x t.val) = x (pick x t) := by
  refine le_antisymm ?_ ?_
  · rw [Finset.fold_max_le]
    exact ⟨bot_le, fun i _ => rest_le x t i⟩
  · rw [Finset.le_fold_max]
    exact Or.inr ⟨pick x t, Finset.mem_univ _, (rest_pick x t).ge⟩

/-- The next pick is the first position of that maximum. -/
theorem pick_le (x : Fin 64 → EReal) (hx : ∀ i, ⊥ < x i) (t : Fin 64) (i : Fin 64)
    (hi : rest x t.val i = x (pick x t)) : pick x t ≤ i := by
  have hb : rest x t.val i ≠ ⊥ := by rw [hi]; exact (hx _).ne'
  obtain ⟨k, hk, e, hr⟩ := place_of_rest x t i hb
  rw [hr] at hi
  rcases eq_or_lt_of_le hk with rfl | hlt
  · exact e.le
  · rcases pick_order x hlt with h | h
    · rw [e, hi] at h; exact absurd h (lt_irrefl _)
    · rw [e] at h; exact h.2.le

/-! ## The first position with a property, as a minimum of words -/

/-- A position below 64 as a signed word is itself. -/
theorem toInt_pos (i : Fin 64) : (BitVec.ofNat 32 i.val).toInt = (i.val : ℤ) := by
  have := i.isLt
  rw [BitVec.toInt_eq_toNat_of_lt (by rw [BitVec.toNat_ofNat, Nat.mod_eq_of_lt] <;> omega), BitVec.toNat_ofNat,
    Nat.mod_eq_of_lt (by omega)]

/-- The signed minimum of two words lies above a bound exactly when both do. -/
theorem le_minsi (c : ℤ) (a b : BitVec 32) : c ≤ (IntOp.minsi a b).toInt ↔ c ≤ a.toInt ∧ c ≤ b.toInt := by
  unfold IntOp.minsi
  by_cases h : a.slt b
  · rw [if_pos h]
    rw [BitVec.slt_iff_toInt_lt] at h
    omega
  · rw [if_neg h]
    rw [BitVec.slt_iff_toInt_lt] at h
    omega

/-- The minimum, over the positions with a property, of their words (64 standing for the positions without it) is the
    first such position's word. -/
theorem fold_minsi_first (P : Fin 64 → Prop) [DecidablePred P] (p : Fin 64) (hp : P p) (hmin : ∀ i, P i → p ≤ i) :
    Finset.univ.fold IntOp.minsi (2147483647#32) (fun i : Fin 64 => if P i then BitVec.ofNat 32 i.val else 64#32)
      = BitVec.ofNat 32 p.val := by
  have key : ∀ c : ℤ, c ≤ (Finset.univ.fold IntOp.minsi (2147483647#32)
        (fun i : Fin 64 => if P i then BitVec.ofNat 32 i.val else 64#32)).toInt
      ↔ c ≤ (2147483647#32).toInt ∧ ∀ i ∈ (Finset.univ : Finset (Fin 64)),
          c ≤ (if P i then BitVec.ofNat 32 i.val else 64#32).toInt := fun c =>
    Finset.fold_op_rel_iff_and (r := fun (a b : BitVec 32) => c ≤ b.toInt) (c := 0#32) (fun {x y z} => le_minsi c y z)
  apply BitVec.eq_of_toInt_eq
  refine le_antisymm ?_ ?_
  · have h := ((key _).mp le_rfl).2 p (Finset.mem_univ _)
    rwa [if_pos hp] at h
  · rw [key, toInt_pos]
    have hp64 := p.isLt
    refine ⟨?_, fun i _ => ?_⟩
    · have : (2147483647#32 : BitVec 32).toInt = 2147483647 := by decide
      omega
    · split
      · rename_i h
        rw [toInt_pos]
        exact_mod_cast hmin i h
      · have : (64#32 : BitVec 32).toInt = 64 := by decide
        omega

/-- Two positions' words agree exactly when the positions do. -/
theorem word_eq_iff (i k : Fin 64) : BitVec.ofNat 32 i.val = BitVec.ofNat 32 k.val ↔ i = k := by
  constructor
  · intro h
    have h' := congrArg BitVec.toInt h
    rw [toInt_pos, toInt_pos] at h'
    exact Fin.ext (by exact_mod_cast h')
  · rintro rfl; rfl

/-- The word found by searching the row's remainder for its maximum is the next pick's. -/
theorem first_rest (x : Fin 64 → EReal) (hx : ∀ i, ⊥ < x i) (t : Fin 64) :
    Finset.univ.fold IntOp.minsi (2147483647#32)
        (fun i : Fin 64 => if rest x t.val i = x (pick x t) then BitVec.ofNat 32 i.val else 64#32)
      = BitVec.ofNat 32 (pick x t).val :=
  fold_minsi_first (fun i => rest x t.val i = x (pick x t)) _ (rest_pick x t) (pick_le x hx t)

/-! ## The weighted read -/

/-- Division by a nonzero number is multiplication by its inverse. -/
theorem div_of_ne {x y : EReal} (h : y ≠ 0) : Ideal.div x y = x * y⁻¹ := by
  unfold Ideal.div
  rw [if_neg h]

/-- The exponential is nonnegative. -/
theorem exp_nonneg (x : EReal) : 0 ≤ Ideal.exp x := by
  induction x using EReal.rec with
  | bot => exact le_rfl
  | coe r => exact EReal.coe_nonneg.mpr (Real.exp_pos r).le
  | top => exact le_top

/-- A sum of eight exponentials, one of them of zero, is not zero. -/
theorem sum_exp_ne_zero (e : Fin 8 → EReal) (h : ∀ t, 0 ≤ e t) (h0 : e 0 = 1) : ∑ t, e t ≠ 0 := by
  have h1 : e 0 ≤ ∑ t, e t := Finset.single_le_sum (fun t _ => h t) (Finset.mem_univ 0)
  rw [h0] at h1
  exact (zero_lt_one.trans_le h1).ne'

/-- Scattering the eight weights into the slots they were picked at, dividing there by the weights' sum times the
    slot's denominator and summing over the slots is reading each picked slot's quotient under its normalised weight. -/
theorem scatter_read (p : Fin 8 → Fin 64) (hp : Function.Injective p) (e : Fin 8 → EReal) (num den : Fin 64 → EReal)
    (E : EReal) (hE : E ≠ 0) (hd : ∀ i, den i ≠ 0) :
    ∑ i, num i * Ideal.div (∑ t, if i = p t then e t else 0) (E * den i)
      = ∑ t, Ideal.div (e t) E * Ideal.div (num (p t)) (den (p t)) := by
  have hz : ∀ i ∈ (Finset.univ : Finset (Fin 64)), i ∉ Finset.univ.image p →
      num i * Ideal.div (∑ t, if i = p t then e t else 0) (E * den i) = 0 := by
    intro i _ hi
    have : ∀ t ∈ (Finset.univ : Finset (Fin 8)), (if i = p t then e t else 0) = 0 := fun t _ =>
      if_neg fun h => hi (Finset.mem_image.mpr ⟨t, Finset.mem_univ _, h.symm⟩)
    rw [Finset.sum_eq_zero this, div_of_ne (mul_ne_zero hE (hd i)), zero_mul, mul_zero]
  rw [← Finset.sum_subset (Finset.subset_univ (Finset.univ.image p)) hz, Finset.sum_image fun a _ b _ h => hp h]
  refine Finset.sum_congr rfl fun t _ => ?_
  have hs : (∑ r, if p t = p r then e r else 0) = e t := by
    rw [Finset.sum_eq_single t (fun r _ hr => if_neg fun h => hr (hp h).symm) (fun h => absurd (Finset.mem_univ _) h),
      if_pos rfl]
  rw [hs, div_of_ne (mul_ne_zero hE (hd _)), div_of_ne hE, div_of_ne (hd _), EReal.mul_inv]
  rw [mul_comm (num (p t)), mul_assoc, mul_assoc, mul_assoc, mul_comm (den (p t))⁻¹ (num (p t))]

end Obm
-- ==== Proof.Rounds.lean ====
/-
  The kernel's eight selection rounds on a block of 256 rows, read one row at a time: each round takes the first
  position of the row's maximum, adds the exponential of its distance from the first round's maximum into that
  position and into the row's total, and strikes the position out. By Column they walk the row's picks.
-/
module

public import proofs.«01_k».proof.Proof.Gen.KernelIdeal.Frame
public import proofs.«01_k».proof.Proof.Column
public import Idealize.ShloMosaic.Lib.Pointwise

@[expose] public section

set_option maxRecDepth 16384

noncomputable section

namespace Obm

open Idealize.ShloMosaic Cert.KernelIdeal Cert.KernelIdeal.Gen Idealize.ShloMosaic.Pointwise

/-- Row `n` of a block of 256 rows. -/
def row (r : FVec Ideal S256x64 .f32) (n : Fin 256) (i : Fin 64) : EReal := r (ix2 n i)

/-- Every row's maximum. -/
def mx (r : FVec Ideal S256x64 .f32) : FVec Ideal S256x1 .f32 :=
  shapeCast S256x1 (multiReduction .maximumf [1] S256 r 0xFF800000#32 reduces_S256x64_S256 (.inl rfl) rfl)
    shapeCasts_S256_S256x1

/-- One where a position is the first of its row's maximum. -/
def hit (r : FVec Ideal S256x64 .f32) : IVec S256x64 1 :=
  cmpi .eq (iota .tc S256x64 32 [1] iota_S256x64_d1_w32)
    (broadcastTo S256x64 (shapeCast S256x1 (multiReductionI .minsi [1] S256
      (select (cmpf .oeq r (broadcastTo S256x64 (mx r) broadcasts_S256x1_S256x64))
        (iota .tc S256x64 32 [1] iota_S256x64_d1_w32) (broadcast S256x64 64#32))
      2147483647#32 reduces_S256x64_S256 rfl) shapeCasts_S256_S256x1) broadcasts_S256x1_S256x64)

/-- The block with those positions struck out. -/
def nx (r : FVec Ideal S256x64 .f32) : FVec Ideal S256x64 .f32 :=
  select (hit r) (broadcast S256x64 (Scalar.ofBits .f32 0xFF800000#32)) r

/-- The exponential of each row's maximum less `m0`. -/
def ex (m0 : FVec Ideal S256x1 .f32) (r : FVec Ideal S256x64 .f32) : FVec Ideal S256x1 .f32 := exp (subf (mx r) m0)

/-- That exponential at the first position of the maximum, zero elsewhere. -/
def pt (m0 : FVec Ideal S256x1 .f32) (r : FVec Ideal S256x64 .f32) : FVec Ideal S256x64 .f32 :=
  select (hit r)
    (broadcastTo S256x64 (shapeCast S256x1 (ex m0 r) shapeCasts_S256x1_S256x1) broadcasts_S256x1_S256x64)
    (broadcast S256x64 (Scalar.ofBits .f32 0x00000000#32))

/-- What is left of the query block's magnitudes before round `t`. -/
def rem (q : FVec Ideal S256x64 .f32) : ℕ → FVec Ideal S256x64 .f32
  | 0 => absf q
  | t + 1 => nx (rem q t)

/-- The scattered exponentials after the eight rounds. -/
def scat (q : FVec Ideal S256x64 .f32) : FVec Ideal S256x64 .f32 :=
  addf (addf (addf (addf (addf (addf (addf (addf (broadcast S256x64 (Scalar.ofBits .f32 0x00000000#32))
    (pt (mx (rem q 0)) (rem q 0))) (pt (mx (rem q 0)) (rem q 1))) (pt (mx (rem q 0)) (rem q 2)))
    (pt (mx (rem q 0)) (rem q 3))) (pt (mx (rem q 0)) (rem q 4))) (pt (mx (rem q 0)) (rem q 5)))
    (pt (mx (rem q 0)) (rem q 6))) (pt (mx (rem q 0)) (rem q 7))

/-- Their totals. -/
def tot (q : FVec Ideal S256x64 .f32) : FVec Ideal S256x1 .f32 :=
  addf (addf (addf (addf (addf (addf (addf (addf (broadcast S256x1 (Scalar.ofBits .f32 0x00000000#32))
    (ex (mx (rem q 0)) (rem q 0))) (ex (mx (rem q 0)) (rem q 1))) (ex (mx (rem q 0)) (rem q 2)))
    (ex (mx (rem q 0)) (rem q 3))) (ex (mx (rem q 0)) (rem q 4))) (ex (mx (rem q 0)) (rem q 5)))
    (ex (mx (rem q 0)) (rem q 6))) (ex (mx (rem q 0)) (rem q 7))

/-! ## One round, read at a row -/

/-- The word of minus infinity. -/
theorem ofBits_neg_inf : Ideal.ofBits .f32 0xFF800000#32 = ⊥ := by
  simp [Ideal.ofBits, Ideal.ieee]

theorem mx_apply (r : FVec Ideal S256x64 .f32) (n : Fin 256) (z : Fin 1) :
    mx r (ix2 n z) = Finset.univ.fold max ⊥ (row r n) := by
  pointwise [mx]
  rw [ofBits_neg_inf]
  rfl

/-- Where a row is what is left after `t` picks, its maximum is the next pick's score, -/
theorem mx_rest (r : FVec Ideal S256x64 .f32) (n : Fin 256) (x : Fin 64 → EReal) (t : Fin 64)
    (h : row r n = rest x t.val) (z : Fin 1) : mx r (ix2 n z) = x (pick x t) := by
  rw [mx_apply, h, top_rest]

/-- the first position of the maximum is the next pick, -/
theorem hit_rest (r : FVec Ideal S256x64 .f32) (n : Fin 256) (x : Fin 64 → EReal) (hx : ∀ i, ⊥ < x i) (t : Fin 64)
    (h : row r n = rest x t.val) (i : Fin 64) : hit r (ix2 n i) = 1#1 ↔ i = pick x t := by
  have hr : ∀ k, r (ix2 n k) = rest x t.val k := fun k => congrFun h k
  have e : hit r (ix2 n i) = IntOp.cmpi .eq (BitVec.ofNat 32 i.val) (BitVec.ofNat 32 (pick x t).val) := by
    pointwise [hit]
    rw [mx_rest r n x t h]
    simp only [hr]
    rw [← first_rest x hx t]
  rw [e]
  by_cases hi : i = pick x t
  · simp [IntOp.cmpi, hi]
  · have hw := mt (word_eq_iff i (pick x t)).mp hi
    simp only [IntOp.cmpi, beq_eq_false_iff_ne.mpr hw, hi, iff_false]
    decide

/-- the round leaves what is left after one more pick, -/
theorem nx_rest (r : FVec Ideal S256x64 .f32) (n : Fin 256) (x : Fin 64 → EReal) (hx : ∀ i, ⊥ < x i) (t : Fin 64)
    (h : row r n = rest x t.val) : row (nx r) n = rest x (t.val + 1) := by
  funext i
  rw [rest_succ, ← h]
  unfold row
  have hh := hit_rest r n x hx t h i
  pointwise [nx]
  rw [ofBits_neg_inf]
  exact if_congr hh rfl rfl

/-- and it adds the next pick's exponential, at that pick. -/
theorem ex_rest (m0 : FVec Ideal S256x1 .f32) (r : FVec Ideal S256x64 .f32) (n : Fin 256) (x : Fin 64 → EReal)
    (t : Fin 64) (h : row r n = rest x t.val) (z : Fin 1) :
    ex m0 r (ix2 n z) = Ideal.exp (x (pick x t) - m0 (ix2 n z)) := by
  have hm := mx_rest r n x t h z
  pointwise [ex]
  rw [← hm]

theorem pt_rest (m0 : FVec Ideal S256x1 .f32) (r : FVec Ideal S256x64 .f32) (n : Fin 256) (x : Fin 64 → EReal)
    (hx : ∀ i, ⊥ < x i) (t : Fin 64) (h : row r n = rest x t.val) (i : Fin 64) :
    pt m0 r (ix2 n i) = if i = pick x t then Ideal.exp (x (pick x t) - m0 (ix2 n (0 : Fin 1))) else 0 := by
  have hh := hit_rest r n x hx t h i
  have he := ex_rest m0 r n x t h (0 : Fin 1)
  rw [← he]
  pointwise [pt]
  exact if_congr hh rfl rfl

/-! ## The eight rounds -/

/-- A row of query magnitudes. -/
def mag (q : Fin 64 → EReal) (i : Fin 64) : EReal := max (q i) (-(q i))

theorem mag_nonneg (q : Fin 64 → EReal) (i : Fin 64) : 0 ≤ mag q i := by
  unfold mag
  rcases le_total 0 (q i) with h | h
  · exact le_max_of_le_left h
  · exact le_max_of_le_right (EReal.neg_nonneg.mpr h)

theorem mag_bot (q : Fin 64 → EReal) (i : Fin 64) : ⊥ < mag q i := EReal.bot_lt_zero.trans_le (mag_nonneg q i)

theorem row_rem (q : FVec Ideal S256x64 .f32) (n : Fin 256) (t : ℕ) (ht : t ≤ 64) :
    row (rem q t) n = rest (mag (row q n)) t := by
  induction t with
  | zero =>
    rw [rest_zero]
    rfl
  | succ t ih => exact nx_rest _ n _ (mag_bot _) ⟨t, ht⟩ (ih (by omega))

/-- A place among the first eight, among all 64. -/
def wide (t : Fin 8) : Fin 64 := ⟨t.val, by omega⟩

/-- The exponential of the `t`-th greatest magnitude less the greatest. -/
def wexp (x : Fin 64 → EReal) (t : Fin 8) : EReal := Ideal.exp (x (pick x (wide t)) - x (pick x 0))

/-- The scattered exponentials, read at a row. -/
theorem scat_apply (q : FVec Ideal S256x64 .f32) (n : Fin 256) (i : Fin 64) :
    scat q (ix2 n i) = ∑ t : Fin 8, if i = pick (mag (row q n)) (wide t) then wexp (mag (row q n)) t else 0 := by
  have h : ∀ t : Fin 8, pt (mx (rem q 0)) (rem q t.val) (ix2 n i)
      = if i = pick (mag (row q n)) (wide t) then wexp (mag (row q n)) t else 0 := fun t => by
    rw [pt_rest _ _ n _ (mag_bot _) (wide t) (row_rem q n t.val (by omega)) i,
      mx_rest _ n _ 0 (row_rem q n 0 (by omega))]
    rfl
  rw [Fin.sum_univ_eight]
  simp only [← h]
  pointwise [scat]

/-- The totals, read at a row. -/
theorem tot_apply (q : FVec Ideal S256x64 .f32) (n : Fin 256) (z : Fin 1) :
    tot q (ix2 n z) = ∑ t : Fin 8, wexp (mag (row q n)) t := by
  have h : ∀ t : Fin 8, ex (mx (rem q 0)) (rem q t.val) (ix2 n z) = wexp (mag (row q n)) t := fun t => by
    rw [ex_rest _ _ n _ (wide t) (row_rem q n t.val (by omega)) z,
      mx_rest _ n _ 0 (row_rem q n 0 (by omega))]
    rfl
  rw [Fin.sum_univ_eight]
  simp only [← h]
  pointwise [tot]

/-! ## The kernel's rounds are these -/

theorem scat_eq (x0 x1 x2 : Vec Ideal S8x32x64 .f32) : k0_pay117 x0 x1 x2 = scat (k0_pay102 x0 x1 x2) := by
  unfold k0_pay117 k0_pay116 k0_pay115 k0_pay113 k0_pay112 k0_pay111 k0_pay110 k0_pay109 k0_pay108 k0_pay107 k0_pay100
  generalize k0_pay102 x0 x1 x2 = q
  rfl

theorem tot_eq (x0 x1 x2 : Vec Ideal S8x32x64 .f32) : k0_pay118 x0 x1 x2 = tot (k0_pay102 x0 x1 x2) := by
  unfold k0_pay118 k0_pay116 k0_pay115 k0_pay114 k0_pay112 k0_pay111 k0_pay110 k0_pay109 k0_pay108 k0_pay107 k0_pay100
  generalize k0_pay102 x0 x1 x2 = q
  rfl

end Obm
-- ==== Proof.Slab.lean ====
/-
  One slab of the kernel's block: 32 rows of keys, values and queries of one batch entry and head. The slots' memories
  and denominators, the numerators read out of them, and the weighted sum over the slots, each read at an index.
-/
module

public import proofs.«01_k».proof.Proof.Rounds

@[expose] public section

set_option maxRecDepth 16384

noncomputable section

namespace Obm

open Idealize.ShloMosaic Cert.KernelIdeal Cert.KernelIdeal.Gen Idealize.ShloMosaic.Pointwise

/-- The slot masks of a block of keys: one at the first greatest magnitude of each row. -/
def msk (k : FVec Ideal S256x64 .f32) : FVec Ideal S256x64 .f32 :=
  sitofp .f32 (extui 32 (hit (absf k)) natLt_1_32)

/-- The mask of a row of magnitudes. -/
def onehot (x : Fin 64 → EReal) (i : Fin 64) : EReal := if i = pick x 0 then 1 else 0

theorem msk_apply (k : FVec Ideal S256x64 .f32) (n : Fin 256) (i : Fin 64) :
    msk k (ix2 n i) = onehot (mag (row k n)) i := by
  have hh := hit_rest (absf k) n (mag (row k n)) (mag_bot _) 0 (row_rem k n 0 (by omega)) i
  unfold onehot
  have e : msk k (ix2 n i) = ((((hit (absf k) (ix2 n i)).setWidth 32).toInt : ℝ) : EReal) := by
    pointwise [msk]
    rfl
  rw [e]
  by_cases hi : i = pick (mag (row k n)) 0
  · rw [hh.mpr hi, if_pos hi]
    simp
  · rw [if_neg hi, show hit (absf k) (ix2 n i) = 0#1 by
      rcases (by decide : ∀ v : BitVec 1, v = 0#1 ∨ v = 1#1) (hit (absf k) (ix2 n i)) with h | h
      · exact h
      · exact absurd (hh.mp h) hi]
    simp

/-- The numerators of a slab: every slot's memory applied to every query. -/
def numT (mask : FVec Ideal S32x64 .f32) (k v q : FVec Ideal S32x64 .bf16) : FVec Ideal S64x64x32 .f32 :=
  matmul dot_S64x64x64_S32x64_S64x64x32_2_1_01_0_n_n none
    (truncf .bf16
      (matmul dot_S64x32x64_S32x64_S64x64x64_1_0_02_1_n_n none
        (mulf
          (broadcastTo S64x32x64 (truncf .bf16 (shapeCast S64x32x1
            (transpose S64x32 [1, 0] mask transposes_S32x64_p1_0_S64x32) shapeCasts_S64x32_S64x32x1) bitsLt_bf16_f32)
            broadcasts_S64x32x1_S64x32x64)
          (broadcastTo S64x32x64 (shapeCast S1x32x64 v shapeCasts_S32x64_S1x32x64) broadcasts_S1x32x64_S64x32x64))
        k (constant S64x64x64 .f32 0x00000000#32)) bitsLt_bf16_f32)
    q (constant S64x64x32 .f32 0x00000000#32)

/-- The denominators of a slab: every query against every slot's summed keys, plus the small constant. -/
def denT (mask k q : FVec Ideal S32x64 .f32) : FVec Ideal S32x64 .f32 :=
  addf
    (multiReduction .add [2] S32x64
      (mulf (broadcastTo S32x64x64 (shapeCast S32x1x64 q shapeCasts_S32x64_S32x1x64) broadcasts_S32x1x64_S32x64x64)
        (broadcastTo S32x64x64 (shapeCast S1x64x64
          (multiReduction .add [1] S64x64
            (mulf
              (broadcastTo S64x32x64 (shapeCast S64x32x1
                (transpose S64x32 [1, 0] mask transposes_S32x64_p1_0_S64x32) shapeCasts_S64x32_S64x32x1)
                broadcasts_S64x32x1_S64x32x64)
              (broadcastTo S64x32x64 (shapeCast S1x32x64 k shapeCasts_S32x64_S1x32x64) broadcasts_S1x32x64_S64x32x64))
            0x00000000#32 reduces_S64x32x64_S64x64 (.inl rfl) rfl) shapeCasts_S64x64_S1x64x64)
          broadcasts_S1x64x64_S32x64x64))
      0x00000000#32 reduces_S32x64x64_S32x64 (.inl rfl) rfl)
    (broadcast S32x64 (Scalar.ofBits .f32 0x358637BD#32))

/-- A slab's result: the numerators summed over the slots under the scattered weights. -/
def outT (num : FVec Ideal S64x64x32 .f32) (den te : FVec Ideal S32x64 .f32) (es : FVec Ideal S32x1 .f32) :
    FVec Ideal S1x32x64 .f32 :=
  shapeCast S1x32x64
    (transpose S32x64 [1, 0]
      (multiReduction .add [0] S64x32
        (mulf num (broadcastTo S64x64x32 (shapeCast S64x1x32
          (transpose S64x32 [1, 0] (divf te (mulf (broadcastTo S32x64 es broadcasts_S32x1_S32x64) den))
            transposes_S32x64_p1_0_S64x32) shapeCasts_S64x32_S64x1x32) broadcasts_S64x1x32_S64x64x32))
        0x00000000#32 reduces_S64x64x32_S64x32 (.inl rfl) rfl)
      transposes_S64x32_p1_0_S32x64) shapeCasts_S32x64_S1x32x64

theorem numT_apply (mask : FVec Ideal S32x64 .f32) (k v q : FVec Ideal S32x64 .bf16) (i d : Fin 64) (s : Fin 32) :
    numT mask k v q (ix3 i d s)
      = ∑ e : Fin 64, (∑ r : Fin 32, mask (ix2 r i) * v (ix2 r d) * k (ix2 r e)) * q (ix2 s e) := by
  pointwise [numT]

theorem denT_apply (mask k q : FVec Ideal S32x64 .f32) (s : Fin 32) (i : Fin 64) :
    denT mask k q (ix2 s i)
      = (∑ d : Fin 64, q (ix2 s d) * ∑ r : Fin 32, mask (ix2 r i) * k (ix2 r d)) + Ideal.ofBits .f32 0x358637BD#32 := by
  pointwise [denT]

theorem outT_apply (num : FVec Ideal S64x64x32 .f32) (den te : FVec Ideal S32x64 .f32) (es : FVec Ideal S32x1 .f32)
    (z : Fin 1) (s : Fin 32) (d : Fin 64) :
    outT num den te es (ix3 z s d)
      = ∑ i : Fin 64, num (ix3 i d s) * Ideal.div (te (ix2 s i)) (es (ix2 s (0 : Fin 1)) * den (ix2 s i)) := by
  pointwise [outT]

end Obm
-- ==== Proof.Block.lean ====
/-
  The block the kernel leaves: eight slabs of 32 rows each, every one the same function of its own rows of keys, values
  and queries. The block is read at an index as a formula in that slab's rows.
-/
module

public import proofs.«01_k».proof.Proof.Slab
public import Idealize.ShloMosaic.Lib.Pipeline.ValueKit.Tiles

@[expose] public section

set_option maxRecDepth 16384

noncomputable section

namespace Obm

open Idealize.ShloMosaic Cert.KernelIdeal Cert.KernelIdeal.Gen Idealize.ShloMosaic.Pointwise

/-- The slab at rows `o`…`o + 31` of a block of 256 rows. -/
def slab (o : ℕ) (h : S256x64.Slices ![o, 0] S32x64) (h1 : S256x1.Slices ![o, 0] S32x1)
    (mask : FVec Ideal S256x64 .f32) (kb vb qb : FVec Ideal S256x64 .bf16) (k q te : FVec Ideal S256x64 .f32)
    (es : FVec Ideal S256x1 .f32) : FVec Ideal S1x32x64 .f32 :=
  outT
    (numT (extractStridedSlice S32x64 ![o, 0] mask h) (extractStridedSlice S32x64 ![o, 0] kb h)
      (extractStridedSlice S32x64 ![o, 0] vb h) (extractStridedSlice S32x64 ![o, 0] qb h))
    (denT (extractStridedSlice S32x64 ![o, 0] mask h) (extractStridedSlice S32x64 ![o, 0] k h)
      (extractStridedSlice S32x64 ![o, 0] q h))
    (extractStridedSlice S32x64 ![o, 0] te h) (extractStridedSlice S32x1 ![o, 0] es h1)

/-- What one query of one slab comes to, from the slab's rows: the numerators of all slots, each under its scattered
    exponential over the product of the total and the slot's denominator. -/
def kval (K V Q : Fin 32 → Fin 64 → EReal) (s : Fin 32) (d : Fin 64) : EReal :=
  ∑ i : Fin 64, (∑ e : Fin 64, (∑ r : Fin 32, onehot (mag (K r)) i * V r d * K r e) * Q s e)
    * Ideal.div (∑ t : Fin 8, if i = pick (mag (Q s)) (wide t) then wexp (mag (Q s)) t else 0)
        ((∑ t : Fin 8, wexp (mag (Q s)) t)
          * ((∑ e : Fin 64, Q s e * ∑ r : Fin 32, onehot (mag (K r)) i * K r e) + Ideal.ofBits .f32 0x358637BD#32))

/-- A slice of 32 rows read at an index. -/
theorem rows_apply {w : FTy} (o : ℕ) (h : S256x64.Slices ![o, 0] S32x64) (x : FVec Ideal S256x64 w) (s : Fin 32)
    (i : Fin 64) (ho : o + s.val < 256) :
    extractStridedSlice S32x64 ![o, 0] x h (ix2 s i) = x (ix2 ⟨o + s.val, ho⟩ i) := by
  unfold extractStridedSlice
  congr 1
  funext a
  apply Fin.ext
  match a with
  | ⟨0, _⟩ => rfl
  | ⟨1, _⟩ => exact Nat.zero_add _

/-- A slice of 32 rows of a column read at an index. -/
theorem rows1_apply {w : FTy} (o : ℕ) (h : S256x1.Slices ![o, 0] S32x1) (x : FVec Ideal S256x1 w) (s : Fin 32)
    (i : Fin 1) (ho : o + s.val < 256) :
    extractStridedSlice S32x1 ![o, 0] x h (ix2 s i) = x (ix2 ⟨o + s.val, ho⟩ i) := by
  unfold extractStridedSlice
  congr 1
  funext a
  apply Fin.ext
  match a with
  | ⟨0, _⟩ => rfl
  | ⟨1, _⟩ => exact Nat.zero_add _

/-- A slab of the kernel's own intermediate vectors is the formula in its rows. -/
theorem slab_apply (o : ℕ) (ho : o + 32 ≤ 256) (h : S256x64.Slices ![o, 0] S32x64) (h1 : S256x1.Slices ![o, 0] S32x1)
    (k v q : FVec Ideal S256x64 .f32) (z : Fin 1) (s : Fin 32) (d : Fin 64) :
    slab o h h1 (msk k) (truncf .bf16 k bitsLt_bf16_f32) (truncf .bf16 v bitsLt_bf16_f32)
        (truncf .bf16 q bitsLt_bf16_f32) k q (scat q) (tot q) (ix3 z s d)
      = kval (fun r => row k ⟨o + r.val, by omega⟩) (fun r => row v ⟨o + r.val, by omega⟩)
          (fun r => row q ⟨o + r.val, by omega⟩) s d := by
  have hb : ∀ s : Fin 32, o + s.val < 256 := fun s => by omega
  unfold slab kval
  rw [outT_apply]
  refine Finset.sum_congr rfl fun i _ => ?_
  rw [numT_apply, denT_apply, rows_apply o h _ s i (hb s), rows1_apply o h1 _ s 0 (hb s), scat_apply, tot_apply]
  have em : ∀ (r : Fin 32) (i : Fin 64), extractStridedSlice S32x64 ![o, 0] (msk k) h (ix2 r i)
      = onehot (mag (row k ⟨o + r.val, hb r⟩)) i := fun r i => by rw [rows_apply o h _ r i (hb r), msk_apply]
  have e1 : ∀ {w : FTy} (x : FVec Ideal S256x64 w) (r : Fin 32) (i : Fin 64),
      extractStridedSlice S32x64 ![o, 0] x h (ix2 r i) = x (ix2 ⟨o + r.val, hb r⟩ i) :=
    fun x r i => rows_apply o h x r i (hb r)
  simp only [em]
  simp only [e1]
  rfl

/-- The kernel's flattening of a block of eight slabs. -/
theorem flat_apply (x : Vec Ideal S8x32x64 .f32) (j : Fin 8) (s : Fin 32) (i : Fin 64) (h : 32 * j.val + s.val < 256) :
    k0_pay2 (F := Ideal) x (ix2 ⟨32 * j.val + s.val, h⟩ i) = x (ix3 j s i) := by
  pointwise [k0_pay2]

section pieces

variable (x0 x1 x2 : Vec Ideal S8x32x64 .f32)

/-- What is stored for slab 7 is the slab at row 224. -/
theorem piece8 (mask : FVec Ideal S256x64 .f32) (kb vb qb : FVec Ideal S256x64 .bf16) (k q te : FVec Ideal S256x64 .f32)
    (es : FVec Ideal S256x1 .f32) :
    k0_pay1 (F := Ideal) (k0_pay46 (k0_pay42 qb) (k0_pay45 mask kb vb)) (k0_pay47 (k0_pay41 k) (k0_pay43 q) (k0_pay44 mask))
      (k0_pay98 te) (k0_pay99 es)
      = slab 224 slices_S256x64_o224_0_S32x64 slices_S256x1_o224_0_S32x1 mask kb vb qb k q te es := rfl

/-- What is stored for slab 6 is the slab at row 192. -/
theorem piece7 (mask : FVec Ideal S256x64 .f32) (kb vb qb : FVec Ideal S256x64 .bf16) (k q te : FVec Ideal S256x64 .f32)
    (es : FVec Ideal S256x1 .f32) :
    k0_pay97 (F := Ideal) (k0_pay39 mask kb vb qb) (k0_pay40 k q mask) te es
      = slab 192 slices_S256x64_o192_0_S32x64 slices_S256x1_o192_0_S32x1 mask kb vb qb k q te es := rfl

/-- What is stored for slab 5 is the slab at row 160. -/
theorem piece6 (mask : FVec Ideal S256x64 .f32) (kb vb qb : FVec Ideal S256x64 .bf16) (k q te : FVec Ideal S256x64 .f32)
    (es : FVec Ideal S256x1 .f32) :
    k0_pay96 (F := Ideal) (k0_pay34 mask kb vb qb) (k0_pay37 (k0_pay35 k mask) (k0_pay36 q)) te es
      = slab 160 slices_S256x64_o160_0_S32x64 slices_S256x1_o160_0_S32x1 mask kb vb qb k q te es := rfl

/-- What is stored for slab 4 is the slab at row 128. -/
theorem piece5 (mask : FVec Ideal S256x64 .f32) (kb vb qb : FVec Ideal S256x64 .bf16) (k q te : FVec Ideal S256x64 .f32)
    (es : FVec Ideal S256x1 .f32) :
    k0_pay95 (F := Ideal) (k0_pay31 mask kb vb qb) (k0_pay32 q mask (k0_pay29 k)) te es
      = slab 128 slices_S256x64_o128_0_S32x64 slices_S256x1_o128_0_S32x1 mask kb vb qb k q te es := rfl

/-- What is stored for slab 3 is the slab at row 96. -/
theorem piece4 (mask : FVec Ideal S256x64 .f32) (kb vb qb : FVec Ideal S256x64 .bf16) (k q te : FVec Ideal S256x64 .f32)
    (es : FVec Ideal S256x1 .f32) :
    k0_pay94 (F := Ideal) (k0_pay27 mask kb vb qb) (k0_pay28 k q mask) te es
      = slab 96 slices_S256x64_o96_0_S32x64 slices_S256x1_o96_0_S32x1 mask kb vb qb k q te es := rfl

/-- What is stored for slab 2 is the slab at row 64. -/
theorem piece3 (mask : FVec Ideal S256x64 .f32) (kb vb qb : FVec Ideal S256x64 .bf16) (k q te : FVec Ideal S256x64 .f32)
    (es : FVec Ideal S256x1 .f32) :
    k0_pay93 (F := Ideal) (k0_pay24 (k0_pay18 kb) (k0_pay19 qb) (k0_pay22 vb) (k0_pay23 mask))
      (k0_pay25 (k0_pay17 k) (k0_pay20 q) (k0_pay21 mask)) te es
      = slab 64 slices_S256x64_o64_0_S32x64 slices_S256x1_o64_0_S32x1 mask kb vb qb k q te es := rfl

/-- What is stored for slab 1 is the slab at row 32. -/
theorem piece2 (mask : FVec Ideal S256x64 .f32) (kb vb qb : FVec Ideal S256x64 .bf16) (k q te : FVec Ideal S256x64 .f32)
    (es : FVec Ideal S256x1 .f32) :
    k0_pay92 (F := Ideal) (k0_pay15 mask kb vb qb) (k0_pay16 k q mask) te es
      = slab 32 slices_S256x64_o32_0_S32x64 slices_S256x1_o32_0_S32x1 mask kb vb qb k q te es := rfl

/-- The first slab's last steps, from its numerators, denominators and the scattered exponentials and totals. -/
theorem piece1_out (a : IVec S256x64 32) (num : FVec Ideal S64x64x32 .f32) (den : FVec Ideal S32x64 .f32)
    (b : FVec Ideal S256x1 .f32) (c : FVec Ideal S256x64 .f32) (d : FVec Ideal S256x1 .f32) (e : FVec Ideal S256x64 .f32)
    (f : FVec Ideal S256x1 .f32) :
    k0_pay91 (F := Ideal) (k0_pay90 a num den b c d e f)
      = outT num den (extractStridedSlice S32x64 ![0, 0] (k0_pay88 a b c e f) slices_S256x64_o0_0_S32x64)
          (extractStridedSlice S32x1 ![0, 0] (k0_pay89 a b d e f) slices_S256x1_o0_0_S32x1) := rfl

/-- The first slab's numerators. -/
theorem piece1_num : k0_pay10 (F := Ideal) x0 x1 x2
    = numT (extractStridedSlice S32x64 ![0, 0] (k0_pay4 x0) slices_S256x64_o0_0_S32x64)
        (extractStridedSlice S32x64 ![0, 0] (k0_pay5 x0) slices_S256x64_o0_0_S32x64)
        (extractStridedSlice S32x64 ![0, 0] (k0_pay6 x1) slices_S256x64_o0_0_S32x64)
        (extractStridedSlice S32x64 ![0, 0] (k0_pay7 x2) slices_S256x64_o0_0_S32x64) := rfl

/-- The first slab's denominators. -/
theorem piece1_den : k0_pay13 (F := Ideal) (k0_pay8 x2) (k0_pay11 x0) (k0_pay12 x0)
    = denT (extractStridedSlice S32x64 ![0, 0] (k0_pay4 x0) slices_S256x64_o0_0_S32x64)
        (extractStridedSlice S32x64 ![0, 0] (k0_pay2 x0) slices_S256x64_o0_0_S32x64)
        (extractStridedSlice S32x64 ![0, 0] (k0_pay3 x2) slices_S256x64_o0_0_S32x64) := rfl

/-- The kernel's mask is the mask of the flattened keys. -/
theorem mask_eq (x : Vec Ideal S8x32x64 .f32) : k0_pay4 (F := Ideal) x = msk (k0_pay2 x) := rfl

/-- What is stored for the first slab is the slab at row 0. -/
theorem piece1 :
    k0_pay91 (F := Ideal) (k0_pay90 (k0_pay100 x0 x1 x2)
      (k0_pay10 (View.ld x0 r0_0) (View.ld x1 r0_0) (View.ld x2 r0_0))
      (k0_pay13 (k0_pay8 (View.ld x2 r0_0)) (k0_pay11 (View.ld x0 r0_0)) (k0_pay12 (View.ld x0 r0_0)))
      (k0_pay107 x0 x1 x2) (k0_pay113 x0 x1 x2) (k0_pay114 x0 x1 x2) (k0_pay115 x0 x1 x2) (k0_pay116 x0 x1 x2))
      = slab 0 slices_S256x64_o0_0_S32x64 slices_S256x1_o0_0_S32x1 (k0_pay103 x0 x1 x2) (k0_pay104 x0 x1 x2)
          (k0_pay105 x0 x1 x2) (k0_pay106 x0 x1 x2) (k0_pay101 x0 x1 x2) (k0_pay102 x0 x1 x2) (k0_pay117 x0 x1 x2)
          (k0_pay118 x0 x1 x2) := by
  rw [piece1_out, piece1_num, piece1_den]
  unfold slab k0_pay101 k0_pay102 k0_pay103 k0_pay104 k0_pay105 k0_pay106 k0_pay117 k0_pay118
  rfl

/-- Slab `j` of the kernel's intermediate vectors, read at an index, is the formula in slab `j` of its blocks. -/
theorem slab_block (j : Fin 8) (o : ℕ) (hj : o = 32 * j.val) (h : S256x64.Slices ![o, 0] S32x64)
    (h1 : S256x1.Slices ![o, 0] S32x1) (z : Fin 1) (s : Fin 32) (d : Fin 64) :
    slab o h h1 (k0_pay103 x0 x1 x2) (k0_pay104 x0 x1 x2) (k0_pay105 x0 x1 x2) (k0_pay106 x0 x1 x2)
        (k0_pay101 x0 x1 x2) (k0_pay102 x0 x1 x2) (k0_pay117 x0 x1 x2) (k0_pay118 x0 x1 x2) (ix3 z s d)
      = kval (fun r i => x0 (ix3 j r i)) (fun r i => x1 (ix3 j r i)) (fun r i => x2 (ix3 j r i)) s d := by
  subst hj
  have hld : ∀ x : Vec Ideal S8x32x64 .f32, View.ld x r0_0 = x := fun x => by
    funext y
    refine View.ld_unit_apply_of x _ _ _ y y fun a => ?_
    match a with
    | ⟨0, _⟩ => exact (Nat.zero_add _).symm
    | ⟨1, _⟩ => exact (Nat.zero_add _).symm
    | ⟨2, _⟩ => exact (Nat.zero_add _).symm
  have em : k0_pay103 x0 x1 x2 = msk (k0_pay2 x0) := by
    unfold k0_pay103
    rw [hld, mask_eq]
  have ek : k0_pay101 x0 x1 x2 = k0_pay2 x0 := by
    unfold k0_pay101
    rw [hld]
  have eq : k0_pay102 x0 x1 x2 = k0_pay2 x2 := by
    unfold k0_pay102
    rw [hld]
    rfl
  have ekb : k0_pay104 x0 x1 x2 = truncf .bf16 (k0_pay2 x0) bitsLt_bf16_f32 := by
    unfold k0_pay104
    rw [hld]
    rfl
  have evb : k0_pay105 x0 x1 x2 = truncf .bf16 (k0_pay2 x1) bitsLt_bf16_f32 := by
    unfold k0_pay105
    rw [hld]
    rfl
  have eqb : k0_pay106 x0 x1 x2 = truncf .bf16 (k0_pay2 x2) bitsLt_bf16_f32 := by
    unfold k0_pay106
    rw [hld]
    rfl
  have hb : ∀ r : Fin 32, 32 * j.val + r.val < 256 := fun r => by omega
  have er : ∀ (x : Vec Ideal S8x32x64 .f32) (r : Fin 32),
      row (k0_pay2 x) ⟨32 * j.val + r.val, hb r⟩ = fun i => x (ix3 j r i) := fun x r => by
    funext i
    exact flat_apply x j r i (hb r)
  rw [scat_eq, tot_eq, em, ekb, evb, eqb, ek, eq, slab_apply (32 * j.val) (by omega)]
  simp only [er]

/-- THE BLOCK: entry `(j, s, d)` of what the body leaves is the formula in slab `j` of its three blocks. -/
theorem out_apply (j : Fin 8) (s : Fin 32) (d : Fin 64) :
    out0_3 (F := Ideal) x0 x1 x2 (ix3 j s d)
      = kval (fun r i => x0 (ix3 j r i)) (fun r i => x1 (ix3 j r i)) (fun r i => x2 (ix3 j r i)) s d := by
  have key : ∀ (o : ℕ) (h : S256x64.Slices ![32 * o, 0] S32x64) (h1 : S256x1.Slices ![32 * o, 0] S32x1)
      (w : FVec Ideal S1x32x64 .f32),
      w = slab (32 * o) h h1 (k0_pay103 x0 x1 x2) (k0_pay104 x0 x1 x2) (k0_pay105 x0 x1 x2) (k0_pay106 x0 x1 x2)
        (k0_pay101 x0 x1 x2) (k0_pay102 x0 x1 x2) (k0_pay117 x0 x1 x2) (k0_pay118 x0 x1 x2) →
      View.TileAt (Val := Elt Ideal) (S := S8x32x64) (e := .f32) (ix3 j s d) ![o, 0, 0] S1x32x64.size w
        (kval (fun r i => x0 (ix3 j r i)) (fun r i => x1 (ix3 j r i)) (fun r i => x2 (ix3 j r i)) s d) := by
    intro o h h1 w hw x hx
    have h0 : j.val = o + (x 0).val := hx 0
    have hs : s.val = 0 + (x 1).val := hx 1
    have hd : d.val = 0 + (x 2).val := hx 2
    have hz : (x 0).val < 1 := (x 0).isLt
    have hx' : x = ix3 (0 : Fin 1) s d := by
      funext a
      apply Fin.ext
      match a with
      | ⟨0, _⟩ => show (x 0).val = 0; omega
      | ⟨1, _⟩ => show (x 1).val = s.val; omega
      | ⟨2, _⟩ => show (x 2).val = d.val; omega
    rw [hw, hx', slab_block x0 x1 x2 j (32 * o) (by omega)]
  unfold out0_3
  refine View.canon_eq_of_allAt _ _ _ (cover0_3 _ _ _ _ _ _ _ _ _) ?_
  refine View.allAt_cons_unit _ _ _ _ _ (key 7 slices_S256x64_o224_0_S32x64 slices_S256x1_o224_0_S32x1 _ (piece8 _ _ _ _ _ _ _ _)) ?_
  refine View.allAt_cons_unit _ _ _ _ _ (key 6 slices_S256x64_o192_0_S32x64 slices_S256x1_o192_0_S32x1 _ (piece7 _ _ _ _ _ _ _ _)) ?_
  refine View.allAt_cons_unit _ _ _ _ _ (key 5 slices_S256x64_o160_0_S32x64 slices_S256x1_o160_0_S32x1 _ (piece6 _ _ _ _ _ _ _ _)) ?_
  refine View.allAt_cons_unit _ _ _ _ _ (key 4 slices_S256x64_o128_0_S32x64 slices_S256x1_o128_0_S32x1 _ (piece5 _ _ _ _ _ _ _ _)) ?_
  refine View.allAt_cons_unit _ _ _ _ _ (key 3 slices_S256x64_o96_0_S32x64 slices_S256x1_o96_0_S32x1 _ (piece4 _ _ _ _ _ _ _ _)) ?_
  refine View.allAt_cons_unit _ _ _ _ _ (key 2 slices_S256x64_o64_0_S32x64 slices_S256x1_o64_0_S32x1 _ (piece3 _ _ _ _ _ _ _ _)) ?_
  refine View.allAt_cons_unit _ _ _ _ _ (key 1 slices_S256x64_o32_0_S32x64 slices_S256x1_o32_0_S32x1 _ (piece2 _ _ _ _ _ _ _ _)) ?_
  refine View.allAt_cons_unit _ _ _ _ _ (key 0 slices_S256x64_o0_0_S32x64 slices_S256x1_o0_0_S32x1 _ (piece1 x0 x1 x2)) ?_
  exact View.allAt_nil _ _

end pieces

end Obm
-- ==== Proof.Arr.lean ====
/-
  The array the kernel's run leaves, read at an index: every grid point writes eight slabs, each the formula in the
  batch entry and head that the slab stands for.
-/
module

public import proofs.«01_k».proof.Proof.Block
public import proofs.«01_k».proof.Proof.Gen.KernelIdeal.Value

@[expose] public section

set_option maxRecDepth 16384

noncomputable section

namespace Obm

open Idealize.ShloMosaic Idealize.ShloMosaic.TcCoe Cert.KernelIdeal Cert.KernelIdeal.Gen Idealize.ShloMosaic.Pointwise

/-- The rows of one batch entry and head of an argument. -/
def head (x : Vec Ideal S8x16x32x64 .f32) (b : Fin 8) (h : Fin 16) (r : Fin 32) (i : Fin 64) : EReal := x (ix4 b h r i)

variable (m : (ℓ : Loc nD τ sig) → Buf (Elt Ideal) ℓ)

/-- The region finds the keys reshaped. -/
theorem V_keys (c : Dev nD) : V m c main_call0_v0
    = shapeCast S128x32x64 (m ((c : Thread nD τ).loc main_arg0)) shapeCasts_S8x16x32x64_S128x32x64 := by
  unfold V
  after_results_simp
  rfl

/-- The region finds the values reshaped. -/
theorem V_values (c : Dev nD) : V m c main_call0_v1
    = shapeCast S128x32x64 (m ((c : Thread nD τ).loc main_arg1)) shapeCasts_S8x16x32x64_S128x32x64 := by
  unfold V
  after_results_simp
  rfl

/-- The region finds the queries reshaped. -/
theorem V_queries (c : Dev nD) : V m c main_call0_v2
    = shapeCast S128x32x64 (m ((c : Thread nD τ).loc main_arg2)) shapeCasts_S8x16x32x64_S128x32x64 := by
  unfold V
  after_results_simp
  rfl

/-- The reshape of an argument read at an index. -/
theorem merge_apply (x : Vec Ideal S8x16x32x64 .f32) (b : Fin 8) (h : Fin 16) (s : Fin 32) (i : Fin 64)
    (hn : 16 * b.val + h.val < 128) :
    shapeCast S128x32x64 x shapeCasts_S8x16x32x64_S128x32x64 (ix3 ⟨16 * b.val + h.val, hn⟩ s i) = head x b h s i := by
  unfold head
  pointwise []

/-- Every window's block at point `t` starts at slab `8 t`. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

section emb

variable (t : Fin cfg0.N) (j : Fin 8) (s : Fin 32) (i : Fin 64) (hn : 8 * t.val + j.val < 128)

/-- Where window 0 places an index of its block. -/
theorem emb0 : ((cfg0.win 0).blk t).view.emb (ix3 j s i) = ix3 ⟨8 * t.val + j.val, hn⟩ s i := by
  obtain ⟨⟨e0, e1, e2⟩, _⟩ := idx_facts t
  funext a; apply Fin.ext
  match a with
  | ⟨0, _⟩ => show win0_0.index t (0 : Fin 3) * 8 + 1 * j.val = 8 * t.val + j.val; omega
  | ⟨1, _⟩ => show win0_0.index t (1 : Fin 3) * 32 + 1 * s.val = s.val; omega
  | ⟨2, _⟩ => show win0_0.index t (2 : Fin 3) * 64 + 1 * i.val = i.val; omega

/-- Where window 1 places an index of its block. -/
theorem emb1 : ((cfg0.win 1).blk t).view.emb (ix3 j s i) = ix3 ⟨8 * t.val + j.val, hn⟩ s i := by
  obtain ⟨_, ⟨e0, e1, e2⟩, _⟩ := idx_facts t
  funext a; apply Fin.ext
  match a with
  | ⟨0, _⟩ => show win0_1.index t (0 : Fin 3) * 8 + 1 * j.val = 8 * t.val + j.val; omega
  | ⟨1, _⟩ => show win0_1.index t (1 : Fin 3) * 32 + 1 * s.val = s.val; omega
  | ⟨2, _⟩ => show win0_1.index t (2 : Fin 3) * 64 + 1 * i.val = i.val; omega

/-- Where window 2 places an index of its block. -/
theorem emb2 : ((cfg0.win 2).blk t).view.emb (ix3 j s i) = ix3 ⟨8 * t.val + j.val, hn⟩ s i := by
  obtain ⟨_, _, ⟨e0, e1, e2⟩, _⟩ := idx_facts t
  funext a; apply Fin.ext
  match a with
  | ⟨0, _⟩ => show win0_2.index t (0 : Fin 3) * 8 + 1 * j.val = 8 * t.val + j.val; omega
  | ⟨1, _⟩ => show win0_2.index t (1 : Fin 3) * 32 + 1 * s.val = s.val; omega
  | ⟨2, _⟩ => show win0_2.index t (2 : Fin 3) * 64 + 1 * i.val = i.val; omega

/-- Where window 3 places an index of its block. -/
theorem emb3 : ((cfg0.win 3).blk t).view.emb (ix3 j s i) = ix3 ⟨8 * t.val + j.val, hn⟩ s i := by
  obtain ⟨_, _, _, e0, e1, e2⟩ := idx_facts t
  funext a; apply Fin.ext
  match a with
  | ⟨0, _⟩ => show win0_3.index t (0 : Fin 3) * 8 + 1 * j.val = 8 * t.val + j.val; omega
  | ⟨1, _⟩ => show win0_3.index t (1 : Fin 3) * 32 + 1 * s.val = s.val; omega
  | ⟨2, _⟩ => show win0_3.index t (2 : Fin 3) * 64 + 1 * i.val = i.val; omega

end emb

/-- THE ARRAY AFTER THE RUN: entry `(16 b + h, s, d)` is the formula in batch entry `b` and head `h` of the three
    arguments. -/
theorem final_apply (c : Dev nD) (b : Fin 8) (h : Fin 16) (s : Fin 32) (d : Fin 64) (hn : 16 * b.val + h.val < 128) :
    (dats m 0 c).arrAt 3 cfg0.N (ix3 ⟨16 * b.val + h.val, hn⟩ s d)
      = kval (head (m ((c : Thread nD τ).loc main_arg0)) b h) (head (m ((c : Thread nD τ).loc main_arg1)) b h)
          (head (m ((c : Thread nD τ).loc main_arg2)) b h) s d := by
  have hN : cfg0.N = 16 := by decide
  let t : Fin cfg0.N := ⟨(16 * b.val + h.val) / 8, by omega⟩
  let j : Fin 8 := ⟨(16 * b.val + h.val) % 8, by omega⟩
  have htj : 8 * t.val + j.val = 16 * b.val + h.val := by
    show 8 * ((16 * b.val + h.val) / 8) + (16 * b.val + h.val) % 8 = _
    omega
  have hlt : 8 * t.val + j.val < 128 := by omega
  have en : (⟨8 * t.val + j.val, hlt⟩ : Fin 128) = ⟨16 * b.val + h.val, hn⟩ := Fin.ext htj
  have q := congrFun (Cert.KernelIdeal.Value.blocks3 m c t (flush0_3 t)) (ix3 j s d)
  rw [Cert.KernelIdeal.Value.flushed3] at q
  have q' : (dats m 0 c).arrAt 3 cfg0.N (((cfg0.win 3).blk t).view.emb (ix3 j s d))
      = out0_3 (iblk m c 0 t) (iblk m c 1 t) (iblk m c 2 t) (ix3 j s d) := q
  rw [emb3 t j s d hlt, en, out_apply] at q'
  have k0 : (fun (r : Fin 32) (i : Fin 64) => iblk m c 0 t (ix3 j r i))
      = head (m ((c : Thread nD τ).loc main_arg0)) b h := by
    funext r i
    show V m c main_call0_v0 (((cfg0.win 0).blk t).view.emb (ix3 j r i)) = _
    rw [emb0 t j r i hlt, en, V_keys, merge_apply]
  have k1 : (fun (r : Fin 32) (i : Fin 64) => iblk m c 1 t (ix3 j r i))
      = head (m ((c : Thread nD τ).loc main_arg1)) b h := by
    funext r i
    show V m c main_call0_v1 (((cfg0.win 1).blk t).view.emb (ix3 j r i)) = _
    rw [emb1 t j r i hlt, en, V_values, merge_apply]
  have k2 : (fun (r : Fin 32) (i : Fin 64) => iblk m c 2 t (ix3 j r i))
      = head (m ((c : Thread nD τ).loc main_arg2)) b h := by
    funext r i
    show V m c main_call0_v2 (((cfg0.win 2).blk t).view.emb (ix3 j r i)) = _
    rw [emb2 t j r i hlt, en, V_queries, merge_apply]
  rw [q']
  exact congrArg₂ (fun f g => f g s d) (congrArg₂ kval k0 k1) k2

end Obm
-- ==== Proof.Select.lean ====
/-
  The reference's selections read at an index: the greatest magnitudes of a row with their positions, and the slots'
  memories and key sums gathered at those positions.
-/
module

public import proofs.«01_k».proof.Proof.Arr
public import proofs.«01_k».proof.Proof.Gen.ReferenceIdeal.Read

@[expose] public section

set_option maxRecDepth 16384

noncomputable section

namespace Obm

open Idealize.ShloMosaic Cert.ReferenceIdeal Idealize.ShloMosaic.Pointwise

/-- The comparison the sort makes is the one `before` makes. -/
theorem gt_before (a b : EReal) :
    (FloatOps.cmpfTotal (F := Ideal) (φ := .f32) .gt a b == 1#1) = decide (b < a) := by
  rw [Ideal.cmpfTotal_def]
  show (BitVec.ofBool (decide (b < a)) == 1#1) = decide (b < a)
  by_cases h : b < a
  · rw [decide_eq_true h]; rfl
  · rw [decide_eq_false h]; rfl

/-- The sort by greater element, with the positions carried along. -/
abbrev sorted (x : FVec Ideal S8x16x32x64 .f32) : (S8x16x32x64.Idx → EReal) × IVec S8x16x32x64 32 :=
  Host.sort2 S8x16x32x64 3 (fun l r => FloatOps.cmpfTotal (F := Ideal) (φ := .f32) .gt l.1 r.1) x
    (fun i => if hd : 3 < S8x16x32x64.rank then iotaInDim S8x16x32x64 32 ⟨3, hd⟩ i else 0#32)

/-- Moving along the last axis replaces the last coordinate. -/
theorem along_apply (b : Fin 8) (h : Fin 16) (s : Fin 32) (t k : Fin 64) :
    Shape.Idx.along (s := S8x16x32x64) (ix4 b h s t) (3 : Fin 4) k = ix4 b h s k := by
  funext a
  match a with
  | ⟨0, _⟩ => rfl
  | ⟨1, _⟩ => rfl
  | ⟨2, _⟩ => rfl
  | ⟨3, _⟩ => rfl

/-- The position that the sort takes place `t` from. -/
theorem from_apply (x : FVec Ideal S8x16x32x64 .f32) (b : Fin 8) (h : Fin 16) (s : Fin 32) (t : Fin 64) :
    sortedFrom (fun k k' : Fin 64 =>
        FloatOps.cmpfTotal (F := Ideal) (φ := .f32) .gt
          (x (Shape.Idx.along (s := S8x16x32x64) (ix4 b h s t) (3 : Fin 4) k))
          (x (Shape.Idx.along (s := S8x16x32x64) (ix4 b h s t) (3 : Fin 4) k')) == 1#1) t
      = pick (fun i => x (ix4 b h s i)) t := by
  unfold pick
  congr 1
  funext k k'
  rw [gt_before, along_apply, along_apply]
  rfl

/-- The sorted elements. -/
theorem sorted_val (x : FVec Ideal S8x16x32x64 .f32) (b : Fin 8) (h : Fin 16) (s : Fin 32) (t : Fin 64) :
    (sorted x).1 (ix4 b h s t) = x (ix4 b h s (pick (fun i => x (ix4 b h s i)) t)) := by
  unfold sorted Host.sort2
  rw [dif_pos (by decide : 3 < S8x16x32x64.rank)]
  exact congrArg x ((along_apply b h s t _).trans (congrArg (ix4 b h s) (from_apply x b h s t)))

/-- The positions' words at a position. -/
theorem pos_word (b : Fin 8) (h : Fin 16) (s : Fin 32) (p : Fin 64) :
    (if hd : 3 < S8x16x32x64.rank then iotaInDim S8x16x32x64 32 ⟨3, hd⟩ (ix4 b h s p) else 0#32)
      = BitVec.ofNat 32 p.val := rfl

/-- The sorted elements' positions, as words. -/
theorem sorted_idx (x : FVec Ideal S8x16x32x64 .f32) (b : Fin 8) (h : Fin 16) (s : Fin 32) (t : Fin 64) :
    (sorted x).2 (ix4 b h s t) = BitVec.ofNat 32 (pick (fun i => x (ix4 b h s i)) t).val := by
  refine Eq.trans ?_ (pos_word b h s _)
  unfold sorted Host.sort2
  rw [dif_pos (by decide : 3 < S8x16x32x64.rank)]
  exact congrArg (fun i => if hd : 3 < S8x16x32x64.rank then iotaInDim S8x16x32x64 32 ⟨3, hd⟩ i else 0#32)
    ((along_apply b h s t _).trans (congrArg (ix4 b h s) (from_apply x b h s t)))

/-- The one greatest element's position, as a word. -/
theorem top1_idx (x : FVec Ideal S8x16x32x64 .f32) (hs : S8x16x32x64.Slices (fun _ => 0) S8x16x32x1) (b : Fin 8)
    (h : Fin 16) (s : Fin 32) (z : Fin 1) :
    (Host.topK S8x16x32x1 3 (FloatOps.cmpfTotal (F := Ideal) (φ := .f32) .gt) x hs).2 (ix4 b h s z)
      = BitVec.ofNat 32 (pick (fun i => x (ix4 b h s i)) 0).val := by
  refine Eq.trans (congrArg (sorted x).2 (?_ : _ = ix4 b h s (0 : Fin 64))) (sorted_idx x b h s 0)
  funext a
  apply Fin.ext
  match a with
  | ⟨0, _⟩ => exact Nat.zero_add _
  | ⟨1, _⟩ => exact Nat.zero_add _
  | ⟨2, _⟩ => exact Nat.zero_add _
  | ⟨3, _⟩ => exact (Nat.zero_add _).trans (by have := z.isLt; show z.val = 0; omega)

/-- The eight greatest elements' positions, as words. -/
theorem top8_idx (x : FVec Ideal S8x16x32x64 .f32) (hs : S8x16x32x64.Slices (fun _ => 0) S8x16x32x8) (b : Fin 8)
    (h : Fin 16) (s : Fin 32) (t : Fin 8) :
    (Host.topK S8x16x32x8 3 (FloatOps.cmpfTotal (F := Ideal) (φ := .f32) .gt) x hs).2 (ix4 b h s t)
      = BitVec.ofNat 32 (pick (fun i => x (ix4 b h s i)) (wide t)).val := by
  refine Eq.trans (congrArg (sorted x).2 (?_ : _ = ix4 b h s (wide t))) (sorted_idx x b h s (wide t))
  funext a
  apply Fin.ext
  match a with
  | ⟨0, _⟩ => exact Nat.zero_add _
  | ⟨1, _⟩ => exact Nat.zero_add _
  | ⟨2, _⟩ => exact Nat.zero_add _
  | ⟨3, _⟩ => exact Nat.zero_add _

/-- The eight greatest elements. -/
theorem top8_val (x : FVec Ideal S8x16x32x64 .f32) (hs : S8x16x32x64.Slices (fun _ => 0) S8x16x32x8) (b : Fin 8)
    (h : Fin 16) (s : Fin 32) (t : Fin 8) :
    (Host.topK S8x16x32x8 3 (FloatOps.cmpfTotal (F := Ideal) (φ := .f32) .gt) x hs).1 (ix4 b h s t)
      = x (ix4 b h s (pick (fun i => x (ix4 b h s i)) (wide t))) := by
  refine Eq.trans (congrArg (sorted x).1 (?_ : _ = ix4 b h s (wide t))) (sorted_val x b h s (wide t))
  funext a
  apply Fin.ext
  match a with
  | ⟨0, _⟩ => exact Nat.zero_add _
  | ⟨1, _⟩ => exact Nat.zero_add _
  | ⟨2, _⟩ => exact Nat.zero_add _
  | ⟨3, _⟩ => exact Nat.zero_add _

/-- The memories gathered at three-part positions, where the parts are in range. -/
theorem gather_mem (x : FVec Ideal S8x16x64x64x64 .f32) (g : IVec S8x16x32x8x3 32) (b : Fin 8) (h : Fin 16) (s : Fin 32)
    (t : Fin 8) (d e : Fin 64) (b' : Fin 8) (h' : Fin 16) (i : Fin 64)
    (h0 : (g (ix5 b h s t (0 : Fin 3))).toInt.toNat = b'.val) (h1 : (g (ix5 b h s t (1 : Fin 3))).toInt.toNat = h'.val)
    (h2 : (g (ix5 b h s t (2 : Fin 3))).toInt.toNat = i.val) :
    Host.gather gather_S8x16x64x64x64_S8x16x32x8x3_S8x16x32x8x64x64_45_012_n_n_012_4_1116464 x g (ix6 b h s t d e)
      = x (ix5 b' h' i d e) := by
  unfold Host.gather
  congr 1
  have hs : ∀ k : Fin 3, GatherDims.siIdx
      gather_S8x16x64x64x64_S8x16x32x8x3_S8x16x32x8x64x64_45_012_n_n_012_4_1116464 (ix6 b h s t d e) k
        = ix5 b h s t k := by
    intro k
    funext a
    match a with
    | ⟨0, _⟩ => rfl
    | ⟨1, _⟩ => rfl
    | ⟨2, _⟩ => rfl
    | ⟨3, _⟩ => rfl
    | ⟨4, _⟩ => rfl
  funext a
  apply Fin.ext
  match a with
  | ⟨0, _⟩ =>
    show min (g (GatherDims.siIdx gather_S8x16x64x64x64_S8x16x32x8x3_S8x16x32x8x64x64_45_012_n_n_012_4_1116464
       _ (0 : Fin 3))).toInt.toNat (8 - 1) + 0 + 0 = b'.val
    rw [hs, h0]; omega
  | ⟨1, _⟩ =>
    show min (g (GatherDims.siIdx gather_S8x16x64x64x64_S8x16x32x8x3_S8x16x32x8x64x64_45_012_n_n_012_4_1116464
       _ (1 : Fin 3))).toInt.toNat (16 - 1) + 0 + 0 = h'.val
    rw [hs, h1]; omega
  | ⟨2, _⟩ =>
    show min (g (GatherDims.siIdx gather_S8x16x64x64x64_S8x16x32x8x3_S8x16x32x8x64x64_45_012_n_n_012_4_1116464
       _ (2 : Fin 3))).toInt.toNat (64 - 1) + 0 + 0 = i.val
    rw [hs, h2]; omega
  | ⟨3, _⟩ => show 0 + 0 + d.val = d.val; omega
  | ⟨4, _⟩ => show 0 + 0 + e.val = e.val; omega

/-- The key sums gathered at three-part positions, where the parts are in range. -/
theorem gather_sum (x : FVec Ideal S8x16x64x64 .f32) (g : IVec S8x16x32x8x3 32) (b : Fin 8) (h : Fin 16) (s : Fin 32)
    (t : Fin 8) (d : Fin 64) (b' : Fin 8) (h' : Fin 16) (i : Fin 64)
    (h0 : (g (ix5 b h s t (0 : Fin 3))).toInt.toNat = b'.val) (h1 : (g (ix5 b h s t (1 : Fin 3))).toInt.toNat = h'.val)
    (h2 : (g (ix5 b h s t (2 : Fin 3))).toInt.toNat = i.val) :
    Host.gather gather_S8x16x64x64_S8x16x32x8x3_S8x16x32x8x64_4_012_n_n_012_4_11164 x g (ix5 b h s t d)
      = x (ix4 b' h' i d) := by
  unfold Host.gather
  congr 1
  have hs : ∀ k : Fin 3, GatherDims.siIdx
      gather_S8x16x64x64_S8x16x32x8x3_S8x16x32x8x64_4_012_n_n_012_4_11164 (ix5 b h s t d) k
        = ix5 b h s t k := by
    intro k
    funext a
    match a with
    | ⟨0, _⟩ => rfl
    | ⟨1, _⟩ => rfl
    | ⟨2, _⟩ => rfl
    | ⟨3, _⟩ => rfl
    | ⟨4, _⟩ => rfl
  funext a
  apply Fin.ext
  match a with
  | ⟨0, _⟩ =>
    show min (g (GatherDims.siIdx gather_S8x16x64x64_S8x16x32x8x3_S8x16x32x8x64_4_012_n_n_012_4_11164
       _ (0 : Fin 3))).toInt.toNat (8 - 1) + 0 + 0 = b'.val
    rw [hs, h0]; omega
  | ⟨1, _⟩ =>
    show min (g (GatherDims.siIdx gather_S8x16x64x64_S8x16x32x8x3_S8x16x32x8x64_4_012_n_n_012_4_11164
       _ (1 : Fin 3))).toInt.toNat (16 - 1) + 0 + 0 = h'.val
    rw [hs, h1]; omega
  | ⟨2, _⟩ =>
    show min (g (GatherDims.siIdx gather_S8x16x64x64_S8x16x32x8x3_S8x16x32x8x64_4_012_n_n_012_4_11164
       _ (2 : Fin 3))).toInt.toNat (64 - 1) + 0 + 0 = i.val
    rw [hs, h2]; omega
  | ⟨3, _⟩ => show 0 + 0 + d.val = d.val; omega

end Obm
-- ==== Proof.Stages.lean ====
/-
  The reference's arithmetic read at an index, stage by stage: the slots' masks, the memories and the key sums they
  collect, the weights of the eight greatest query magnitudes.
-/
module

public import proofs.«01_k».proof.Proof.Select

@[expose] public section

set_option maxRecDepth 16384

noncomputable section

namespace Obm

open Idealize.ShloMosaic Cert.ReferenceIdeal Cert.ReferenceIdeal.Read Idealize.ShloMosaic.Pointwise

variable (x0 x1 x2 : Vec Ideal S8x16x32x64 .f32)

/-- The small constant is not zero. -/
theorem eps_ne_zero : Ideal.ofBits .f32 0x358637BD#32 ≠ 0 := by
  simp [Ideal.ofBits, Ideal.ieee, -EReal.coe_mul]

/-- A magnitude array's row is the row's magnitudes. -/
theorem keys_row (b : Fin 8) (h : Fin 16) (r : Fin 32) :
    (fun i => val_main_v2 (F := Ideal) x0 (ix4 b h r i)) = mag (head x0 b h r) := rfl

/-- The slot words: the first greatest magnitude's position. -/
theorem slot_word (b : Fin 8) (h : Fin 16) (r : Fin 32) (z : Fin 1) :
    val_main_indices (F := Ideal) x0 (ix4 b h r z) = BitVec.ofNat 32 (pick (mag (head x0 b h r)) 0).val := by
  unfold val_main_indices
  rw [top1_idx, keys_row]

/-- The mask's bit. -/
theorem bit_apply (b : Fin 8) (h : Fin 16) (i : Fin 64) (r : Fin 32) :
    val_main_v9 (F := Ideal) x0 (ix4 b h i r)
      = if i = pick (mag (head x0 b h r)) 0 then 1#1 else 0#1 := by
  have e : val_main_v9 (F := Ideal) x0 (ix4 b h i r)
      = IntOp.cmpi .eq (val_main_indices (F := Ideal) x0 (ix4 b h r (0 : Fin 1))) (BitVec.ofNat 32 i.val) := by
    pointwise [val_main_v9, val_main_v8, val_main_v7, val_main_v6, val_main_v5, val_main_v4, val_main_v3]
  rw [e, slot_word]
  show BitVec.ofBool (BitVec.ofNat 32 (pick (mag (head x0 b h r)) 0).val == BitVec.ofNat 32 i.val) = _
  by_cases hi : i = pick (mag (head x0 b h r)) 0
  · rw [if_pos hi, ← hi]
    simp
  · rw [if_neg hi, beq_eq_false_iff_ne.mpr fun q => hi ((word_eq_iff _ _).mp q).symm]
    rfl

/-- The mask. -/
theorem mask_apply (b : Fin 8) (h : Fin 16) (i : Fin 64) (r : Fin 32) (z : Fin 1) :
    val_main_v11 (F := Ideal) x0 (ix5 b h i r z) = onehot (mag (head x0 b h r)) i := by
  have e : val_main_v11 (F := Ideal) x0 (ix5 b h i r z)
      = (((val_main_v9 (F := Ideal) x0 (ix4 b h i r)).toNat : ℝ) : EReal) := by
    pointwise [val_main_v11, val_main_v10]
    rfl
  rw [e, bit_apply]
  unfold onehot
  split_ifs <;> simp

/-- The masked keys. -/
theorem keys_apply (b : Fin 8) (h : Fin 16) (i : Fin 64) (r : Fin 32) (e : Fin 64) :
    val_main_v15 (F := Ideal) x0 (ix5 b h i r e) = head x0 b h r e * onehot (mag (head x0 b h r)) i := by
  rw [← mask_apply x0 b h i r 0]
  unfold head
  pointwise [val_main_v15, val_main_v14, val_main_v13, val_main_v12]

/-- The masked values. -/
theorem values_apply (b : Fin 8) (h : Fin 16) (i : Fin 64) (r : Fin 32) (d : Fin 64) :
    val_main_v19 (F := Ideal) x0 x1 (ix5 b h i r d) = head x1 b h r d * onehot (mag (head x0 b h r)) i := by
  rw [← mask_apply x0 b h i r 0]
  unfold head
  pointwise [val_main_v19, val_main_v18, val_main_v17, val_main_v16]

/-- What a slot's empty memory retrieves is zero. -/
theorem old_apply (b : Fin 8) (h : Fin 16) (i : Fin 64) (r : Fin 32) (d : Fin 64) :
    val_main_v29 (F := Ideal) x0 (ix5 b h i r d) = 0 := by
  pointwise [val_main_v29, val_main_v28, val_main_cst_2, val_main_v27, val_main_v26, val_main_v25, val_main_v24,
    val_main_v23, val_main_cst_1, val_main_v22, val_main_v21, val_main_v20, val_main_v1, val_main_v0, val_main_cst,
    val_main_cst_0]
  have hE := eps_ne_zero
  have hd : Ideal.div (∑ x : Fin 64, val_main_v15 (F := Ideal) x0 (ix5 b h i r x) * 0)
      (∑ x : Fin 64, 0 * val_main_v15 (F := Ideal) x0 (ix5 b h i r x) + Ideal.ofBits .f32 0x358637BD#32) = 0 := by
    simp only [mul_zero, zero_mul, Finset.sum_const_zero, zero_add]
    rw [div_of_ne hE, zero_mul]
  rw [hd]
  unfold Scalar.select
  split_ifs <;> rfl

/-- The memory a slot collects. -/
theorem mem_apply (b : Fin 8) (h : Fin 16) (i d e : Fin 64) :
    val_main_v32 (F := Ideal) x0 x1 (ix5 b h i d e)
      = ∑ r : Fin 32, (head x1 b h r d * onehot (mag (head x0 b h r)) i)
          * (head x0 b h r e * onehot (mag (head x0 b h r)) i) := by
  have e : val_main_v32 (F := Ideal) x0 x1 (ix5 b h i d e)
      = ∑ r : Fin 32, (val_main_v19 (F := Ideal) x0 x1 (ix5 b h i r d) - val_main_v29 (F := Ideal) x0 (ix5 b h i r d))
          * val_main_v15 (F := Ideal) x0 (ix5 b h i r e) := by
    pointwise [val_main_v32, val_main_v31, val_main_v30, val_main_v0, val_main_cst]
  rw [e]
  simp only [values_apply, old_apply, keys_apply, sub_zero]

/-- The keys a slot collects, summed. -/
theorem sum_apply (b : Fin 8) (h : Fin 16) (i d : Fin 64) :
    val_main_v34 (F := Ideal) x0 (ix4 b h i d)
      = ∑ r : Fin 32, head x0 b h r d * onehot (mag (head x0 b h r)) i := by
  simp only [← keys_apply]
  pointwise [val_main_v34, val_main_v33, val_main_v1, val_main_cst_0, val_main_cst_3]

/-- A query magnitude array's row is the row's magnitudes. -/
theorem top_row (b : Fin 8) (h : Fin 16) (s : Fin 32) :
    (fun i => val_main_v35 (F := Ideal) x2 (ix4 b h s i)) = mag (head x2 b h s) := rfl

/-- The eight greatest magnitudes. -/
theorem best_apply (b : Fin 8) (h : Fin 16) (s : Fin 32) (t : Fin 8) :
    val_main_values_4 (F := Ideal) x2 (ix4 b h s t)
      = mag (head x2 b h s) (pick (mag (head x2 b h s)) (wide t)) := by
  unfold val_main_values_4
  rw [top8_val, top_row]
  rfl

/-- Their positions, as words. -/
theorem best_word (b : Fin 8) (h : Fin 16) (s : Fin 32) (t : Fin 8) :
    val_main_indices_5 (F := Ideal) x2 (ix4 b h s t)
      = BitVec.ofNat 32 (pick (mag (head x2 b h s)) (wide t)).val := by
  unfold val_main_indices_5
  rw [top8_idx, top_row]

/-- The greatest of the eight is the first. -/
theorem max_apply (b : Fin 8) (h : Fin 16) (s : Fin 32) :
    val_main_v38 (F := Ideal) x2 (ix3 b h s) = mag (head x2 b h s) (pick (mag (head x2 b h s)) 0) := by
  pointwise [val_main_v38, val_main_v37, val_main_v36, val_main_cst_6, val_main_cst_7]
  simp only [best_apply, ofBits_neg_inf]
  generalize mag (head x2 b h s) = x
  have hall : ∀ i, x i ≤ x (pick x 0) := fun i => by
    rw [← top_rest x 0, Finset.le_fold_max]
    exact Or.inr ⟨i, Finset.mem_univ i, (congrFun (rest_zero x) i).ge⟩
  rw [max_eq_right bot_le]
  refine le_antisymm ?_ ?_
  · rw [Finset.fold_max_le]
    exact ⟨bot_le, fun t _ => hall _⟩
  · rw [Finset.le_fold_max]
    exact Or.inr ⟨0, Finset.mem_univ _, le_rfl⟩

/-- The exponential of a magnitude below the greatest. -/
theorem exp_apply (b : Fin 8) (h : Fin 16) (s : Fin 32) (t : Fin 8) :
    val_main_v42 (F := Ideal) x2 (ix4 b h s t) = wexp (mag (head x2 b h s)) t := by
  unfold wexp
  rw [← best_apply, ← max_apply]
  pointwise [val_main_v42, val_main_v41, val_main_v40, val_main_v39]

/-- A weight: the exponential over the sum of the eight. -/
theorem weight_apply (b : Fin 8) (h : Fin 16) (s : Fin 32) (t : Fin 8) :
    val_main_v46 (F := Ideal) x2 (ix4 b h s t)
      = Ideal.div (wexp (mag (head x2 b h s)) t) (∑ u : Fin 8, wexp (mag (head x2 b h s)) u) := by
  simp only [← exp_apply]
  pointwise [val_main_v46, val_main_v45, val_main_v44, val_main_v43, val_main_cst_8]

end Obm
-- ==== Proof.Read.lean ====
/-
  The reference's result read at an index: for every query the eight picked slots, each slot's retrieved value under
  its weight.
-/
module

public import proofs.«01_k».proof.Proof.Stages

@[expose] public section

set_option maxRecDepth 16384

noncomputable section

namespace Obm

open Idealize.ShloMosaic Cert.ReferenceIdeal Cert.ReferenceIdeal.Read Idealize.ShloMosaic.Pointwise

variable (x0 x1 x2 : Vec Ideal S8x16x32x64 .f32)

/-- A small word counted from zero is not negative, so it is not wrapped. -/
theorem wrap_pos (n e : ℕ) (hn : n < 64) :
    Scalar.select (IntOp.cmpi .slt (BitVec.ofNat 32 n) 0#32) (IntOp.addi (BitVec.ofNat 32 n) (BitVec.ofNat 32 e))
      (BitVec.ofNat 32 n) = BitVec.ofNat 32 n := by
  have h : (BitVec.ofNat 32 n).slt 0#32 = false := by
    have := toInt_pos ⟨n, hn⟩
    simp only [BitVec.slt, this]
    simp
  unfold Scalar.select IntOp.cmpi
  simp [h]

/-- A small word read back. -/
theorem word_nat (n : ℕ) (hn : n < 64) : (BitVec.ofNat 32 n).toInt.toNat = n := by
  rw [toInt_pos ⟨n, hn⟩]
  rfl

/-- The first gather's positions: the batch entry. -/
theorem pos0 (b : Fin 8) (h : Fin 16) (s : Fin 32) (t : Fin 8) :
    val_main_v71 (F := Ideal) x2 (ix5 b h s t (0 : Fin 3)) = BitVec.ofNat 32 b.val := by
  have e := wrap_pos b.val 8 (by omega)
  pointwise [val_main_v71, val_main_v68, val_main_v66, val_main_v55, val_main_v54, val_main_v53, val_main_v52, val_main_v51, val_main_v48, val_main_v47, val_main_c, val_main_c_9]
  exact e

/-- The first gather's positions: the head. -/
theorem pos1 (b : Fin 8) (h : Fin 16) (s : Fin 32) (t : Fin 8) :
    val_main_v71 (F := Ideal) x2 (ix5 b h s t (1 : Fin 3)) = BitVec.ofNat 32 h.val := by
  have e := wrap_pos h.val 16 (by omega)
  pointwise [val_main_v71, val_main_v69, val_main_v67, val_main_v60, val_main_v59, val_main_v58, val_main_v57, val_main_v56, val_main_v50, val_main_v49, val_main_c_10, val_main_c_11]
  exact e

/-- The first gather's positions: the picked slot. -/
theorem pos2 (b : Fin 8) (h : Fin 16) (s : Fin 32) (t : Fin 8) :
    val_main_v71 (F := Ideal) x2 (ix5 b h s t (2 : Fin 3)) = BitVec.ofNat 32 (pick (mag (head x2 b h s)) (wide t)).val := by
  have e := wrap_pos (pick (mag (head x2 b h s)) (wide t)).val 64 (pick (mag (head x2 b h s)) (wide t)).isLt
  pointwise [val_main_v71, val_main_v70, val_main_v65, val_main_v64, val_main_v63, val_main_v62, val_main_v61, val_main_c_12, val_main_c_13]
  rw [best_word]
  exact e

/-- The second gather's positions: the batch entry. -/
theorem tpos0 (b : Fin 8) (h : Fin 16) (s : Fin 32) (t : Fin 8) :
    val_main_v93 (F := Ideal) x2 (ix5 b h s t (0 : Fin 3)) = BitVec.ofNat 32 b.val := by
  have e := wrap_pos b.val 8 (by omega)
  pointwise [val_main_v93, val_main_v90, val_main_v88, val_main_v77, val_main_v76, val_main_v75, val_main_v74, val_main_v73, val_main_v48, val_main_v47, val_main_c_14, val_main_c_15]
  exact e

/-- The second gather's positions: the head. -/
theorem tpos1 (b : Fin 8) (h : Fin 16) (s : Fin 32) (t : Fin 8) :
    val_main_v93 (F := Ideal) x2 (ix5 b h s t (1 : Fin 3)) = BitVec.ofNat 32 h.val := by
  have e := wrap_pos h.val 16 (by omega)
  pointwise [val_main_v93, val_main_v91, val_main_v89, val_main_v82, val_main_v81, val_main_v80, val_main_v79, val_main_v78, val_main_v50, val_main_v49, val_main_c_16, val_main_c_17]
  exact e

/-- The second gather's positions: the picked slot. -/
theorem tpos2 (b : Fin 8) (h : Fin 16) (s : Fin 32) (t : Fin 8) :
    val_main_v93 (F := Ideal) x2 (ix5 b h s t (2 : Fin 3)) = BitVec.ofNat 32 (pick (mag (head x2 b h s)) (wide t)).val := by
  have e := wrap_pos (pick (mag (head x2 b h s)) (wide t)).val 64 (pick (mag (head x2 b h s)) (wide t)).isLt
  pointwise [val_main_v93, val_main_v92, val_main_v87, val_main_v86, val_main_v85, val_main_v84, val_main_v83, val_main_c_18, val_main_c_19]
  rw [best_word]
  exact e

/-- The picked slot's memory. -/
theorem got_mem (b : Fin 8) (h : Fin 16) (s : Fin 32) (t : Fin 8) (d e : Fin 64) :
    val_main_v72 (F := Ideal) x0 x1 x2 (ix6 b h s t d e)
      = val_main_v32 (F := Ideal) x0 x1 (ix5 b h (pick (mag (head x2 b h s)) (wide t)) d e) := by
  unfold val_main_v72
  refine gather_mem _ _ b h s t d e b h _ ?_ ?_ ?_
  · rw [pos0, word_nat _ (by omega)]
  · rw [pos1, word_nat _ (by omega)]
  · rw [pos2, word_nat _ (pick (mag (head x2 b h s)) (wide t)).isLt]

/-- The picked slot's key sum. -/
theorem got_sum (b : Fin 8) (h : Fin 16) (s : Fin 32) (t : Fin 8) (d : Fin 64) :
    val_main_v94 (F := Ideal) x0 x2 (ix5 b h s t d)
      = val_main_v34 (F := Ideal) x0 (ix4 b h (pick (mag (head x2 b h s)) (wide t)) d) := by
  unfold val_main_v94
  refine gather_sum _ _ b h s t d b h _ ?_ ?_ ?_
  · rw [tpos0, word_nat _ (by omega)]
  · rw [tpos1, word_nat _ (by omega)]
  · rw [tpos2, word_nat _ (pick (mag (head x2 b h s)) (wide t)).isLt]

/-- A slot's numerator: its memory applied to a query. -/
def numR (K V Q : Fin 32 → Fin 64 → EReal) (s : Fin 32) (d i : Fin 64) : EReal :=
  ∑ e : Fin 64, (∑ r : Fin 32, (V r d * onehot (mag (K r)) i) * (K r e * onehot (mag (K r)) i)) * Q s e

/-- A slot's denominator: its key sum against a query, plus the small constant. -/
def denR (K Q : Fin 32 → Fin 64 → EReal) (s : Fin 32) (i : Fin 64) : EReal :=
  (∑ e : Fin 64, (∑ r : Fin 32, K r e * onehot (mag (K r)) i) * Q s e) + Ideal.ofBits .f32 0x358637BD#32

/-- What one query comes to in the reference. -/
def rval (K V Q : Fin 32 → Fin 64 → EReal) (s : Fin 32) (d : Fin 64) : EReal :=
  ∑ t : Fin 8, Ideal.div (wexp (mag (Q s)) t) (∑ u : Fin 8, wexp (mag (Q s)) u)
    * Ideal.div (numR K V Q s d (pick (mag (Q s)) (wide t))) (denR K Q s (pick (mag (Q s)) (wide t)))

/-- The retrieved numerators. -/
theorem num_apply (b : Fin 8) (h : Fin 16) (s : Fin 32) (t : Fin 8) (d : Fin 64) :
    val_main_v95 (F := Ideal) x0 x1 x2 (ix5 b h s t d)
      = numR (head x0 b h) (head x1 b h) (head x2 b h) s d (pick (mag (head x2 b h s)) (wide t)) := by
  have e : val_main_v95 (F := Ideal) x0 x1 x2 (ix5 b h s t d)
      = ∑ e : Fin 64, val_main_v72 (F := Ideal) x0 x1 x2 (ix6 b h s t d e) * head x2 b h s e := by
    unfold head
    pointwise [val_main_v95]
  rw [e]
  unfold numR
  simp only [got_mem, mem_apply]

/-- The retrieved denominators. -/
theorem den_apply (b : Fin 8) (h : Fin 16) (s : Fin 32) (t : Fin 8) (z : Fin 1) :
    val_main_v99 (F := Ideal) x0 x2 (ix5 b h s t z)
      = denR (head x0 b h) (head x2 b h) s (pick (mag (head x2 b h s)) (wide t)) := by
  have e : val_main_v99 (F := Ideal) x0 x2 (ix5 b h s t z)
      = (∑ e : Fin 64, val_main_v94 (F := Ideal) x0 x2 (ix5 b h s t e) * head x2 b h s e)
        + Ideal.ofBits .f32 0x358637BD#32 := by
    unfold head
    pointwise [val_main_v99, val_main_v98, val_main_v97, val_main_v96, val_main_cst_20]
  rw [e]
  unfold denR
  simp only [got_sum, sum_apply]

/-- THE REFERENCE'S RESULT: entry `(16 b + h, s, d)` is the formula in batch entry `b` and head `h`. -/
theorem result_apply (b : Fin 8) (h : Fin 16) (s : Fin 32) (d : Fin 64) (hn : 16 * b.val + h.val < 128) :
    val_main_v106 (F := Ideal) x0 x1 x2 (ix3 ⟨16 * b.val + h.val, hn⟩ s d)
      = rval (head x0 b h) (head x1 b h) (head x2 b h) s d := by
  unfold rval
  simp only [← num_apply, ← den_apply (z := (0 : Fin 1)), ← weight_apply]
  pointwise [val_main_v106, val_main_v105, val_main_v104, val_main_v103, val_main_v102, val_main_v101, val_main_v100,
    val_main_cst_21]

end Obm
-- ==== Proof.Equation.lean ====
/-
  The kernel's formula and the reference's agree where the queries are finite and no denominator is zero.
-/
module

public import proofs.«01_k».proof.Proof.Read

@[expose] public section

noncomputable section

namespace Obm

open Idealize.ShloMosaic

/-- A masked product masked once or twice is the same. -/
theorem masked (x : Fin 64 → EReal) (i : Fin 64) (v k : EReal) :
    onehot x i * v * k = (v * onehot x i) * (k * onehot x i) := by
  unfold onehot
  split_ifs <;> simp

/-- The first exponential is one: a finite magnitude less itself is zero. -/
theorem wexp_zero (x : Fin 64 → EReal) (h0 : ∀ i, 0 ≤ x i) (h1 : ∀ i, x i < ⊤) : wexp x 0 = 1 := by
  have hz : (wide 0 : Fin 64) = 0 := rfl
  unfold wexp
  rw [hz, EReal.sub_self (h1 _).ne (EReal.bot_lt_zero.trans_le (h0 _)).ne']
  exact (congrArg Ideal.exp EReal.coe_zero.symm).trans (by
    rw [Ideal.exp_coe, Real.exp_zero]
    rfl)

/-- The eight picks are distinct. -/
theorem wide_injective (x : Fin 64 → EReal) : Function.Injective fun t : Fin 8 => pick x (wide t) := fun t u h => by
  have := congrArg Fin.val (pick_injective x h)
  exact Fin.ext this

/-- The kernel's formula is the reference's, where the query's magnitudes are finite and every denominator is not
    zero. -/
theorem kval_eq_rval (K V Q : Fin 32 → Fin 64 → EReal) (s : Fin 32) (d : Fin 64) (hfin : ∀ i, mag (Q s) i < ⊤)
    (hden : ∀ i, denR K Q s i ≠ 0) : kval K V Q s d = rval K V Q s d := by
  have hE : ∑ t : Fin 8, wexp (mag (Q s)) t ≠ 0 :=
    sum_exp_ne_zero _ (fun t => exp_nonneg _) (wexp_zero _ (mag_nonneg _) hfin)
  have h := scatter_read (fun t => pick (mag (Q s)) (wide t)) (wide_injective _) (wexp (mag (Q s)))
    (numR K V Q s d) (denR K Q s) _ hE hden
  unfold rval
  rw [← h]
  unfold kval numR denR
  refine Finset.sum_congr rfl fun i _ => ?_
  simp only [masked, mul_comm (Q s _), mul_comm (onehot _ _) (K _ _)]

end Obm
-- ==== Proof.Pre.lean ====
/-
  What the precondition says of the arguments: every query is finite, and every slot's denominator at every query is
  not zero.
-/
module

public import proofs.«01_k».proof.Proof.Equation
public import proofs.«01_k».proof.Pre_regular

@[expose] public section

set_option maxRecDepth 16384

noncomputable section

namespace Obm

open Idealize.ShloMosaic Idealize.ShloMosaic.Pointwise

/-- The shape conditions of the precondition's operations. -/
instance preFacts : Cert.Pre_regular.Facts where
  sliceFits_S8x16x32x64_S8x16x32x1 := by decide
  shapeCasts_S8x16x32x1_S8x16x32 := by decide
  bcast_S8x16x32_S8x16x1x32_0_1_3 := by decide
  bcast_S64_S1x1x64x1_2 := by decide
  bcast_S8x16x1x32_S8x16x64x32_0_1_2_3 := by decide
  bcast_S1x1x64x1_S8x16x64x32_0_1_2_3 := by decide
  bcast_S8x16x32x64_S8x16x1x32x64_0_1_3_4 := by decide
  bcast_S8x16x64x32_S8x16x64x32x1_0_1_2_3 := by decide
  bcast_S8x16x1x32x64_S8x16x64x32x64_0_1_2_3_4 := by decide
  bcast_S8x16x64x32x1_S8x16x64x32x64_0_1_2_3_4 := by decide
  reducesTo_S8x16x64x32x64_S8x16x64x64_d3 := by decide
  h_S_ := by decide
  bcast_S_S8x16x32x64 := by decide
  dot_S8x16x32x64_S8x16x64x64_S8x16x32x64_3_3_2_2_01_01_wf := by decide

variable (x0 x1 x2 : Vec Ideal Cert.KernelIdeal.S8x16x32x64 .f32)

/-- The infinite constant the queries are held against. -/
theorem ofBits_inf : Ideal.ofBits .f32 0x7F800000#32 = ⊤ := by
  simp [Ideal.ofBits, Ideal.ieee]

/-- The precondition's mask is the one the reference builds. -/
theorem pre_mask (hs : Cert.Pre_regular.S8x16x32x64.Slices (fun _ => 0) Cert.Pre_regular.S8x16x32x1) (b : Fin 8)
    (h : Fin 16) (r : Fin 32) (i : Fin 64) :
    FloatOps.uitofp (F := Ideal) .f32 (IntOp.cmpi .eq
        ((Host.topK Cert.Pre_regular.S8x16x32x1 3 (FloatOps.cmpfTotal (F := Ideal) (φ := .f32) .gt)
          (Host.absf x0) hs).2 (ix4 b h r (0 : Fin 1))) (BitVec.ofNat 32 i.val))
      = onehot (mag (head x0 b h r)) i := by
  rw [← mask_apply x0 b h i r 0]
  pointwise [Cert.ReferenceIdeal.Read.val_main_v11, Cert.ReferenceIdeal.Read.val_main_v10,
    Cert.ReferenceIdeal.Read.val_main_v9, Cert.ReferenceIdeal.Read.val_main_v8, Cert.ReferenceIdeal.Read.val_main_v7,
    Cert.ReferenceIdeal.Read.val_main_v6, Cert.ReferenceIdeal.Read.val_main_v5, Cert.ReferenceIdeal.Read.val_main_v4,
    Cert.ReferenceIdeal.Read.val_main_v3]
  rfl

/-- The first condition at an index: the query's magnitude is below infinity. -/
theorem pre_fin (b : Fin 8) (h : Fin 16) (s : Fin 32) (i : Fin 64) :
    (Cert.Pre_regular.fn (F := Ideal) x0 x1 x2).1 (ix4 b h s i) = BitVec.ofBool (decide (mag (head x2 b h s) i < ⊤)) := by
  pointwise [Cert.Pre_regular.fn, Cert.Pre_regular.fn_part1]
  rw [ofBits_inf]
  rfl

/-- The second condition at an index: the slot's denominator is not zero. -/
theorem pre_den (b : Fin 8) (h : Fin 16) (s : Fin 32) (i : Fin 64) :
    (Cert.Pre_regular.fn (F := Ideal) x0 x1 x2).2 (ix4 b h s i)
      = BitVec.ofBool (decide (denR (head x0 b h) (head x2 b h) s i ≠ 0)) := by
  pointwise [Cert.Pre_regular.fn, Cert.Pre_regular.fn_part1]
  simp only [pre_mask]
  unfold denR head
  simp only [mul_comm]

/-- A condition's bit is set only where the condition holds. -/
theorem of_bit {p : Prop} [Decidable p] (h : BitVec.ofBool (decide p) = 1#1) : p := by
  by_contra hp
  rw [decide_eq_false hp] at h
  exact absurd h (by decide)

end Obm
-- ==== Proof.Meet.lean ====
/-
  The two programs' results, index by index: under the precondition the array the kernel leaves is the array the
  reference returns.
-/
module

public import proofs.«01_k».proof.Proof.Arr
public import proofs.«01_k».proof.Proof.Pre

@[expose] public section

set_option maxRecDepth 16384

noncomputable section

namespace Obm

open Idealize.ShloMosaic Idealize.ShloMosaic.Pointwise Cert.KernelIdeal Cert.KernelIdeal.Gen

variable (m : (ℓ : Loc nD τ sig) → Buf (Elt Ideal) ℓ)

/-- Every index of the result is a batch entry and a head folded together, a sequence position and a coordinate. -/
theorem index_form (y : S128x32x64.Idx) : ∃ (b : Fin 8) (h : Fin 16) (s : Fin 32) (d : Fin 64)
    (hn : 16 * b.val + h.val < 128), y = ix3 ⟨16 * b.val + h.val, hn⟩ s d := by
  have h0 : (y 0).val < 128 := (y 0).isLt
  refine ⟨⟨(y 0).val / 16, by omega⟩, ⟨(y 0).val % 16, by omega⟩, y 1, y 2, by dsimp only; omega, ?_⟩
  funext a
  apply Fin.ext
  match a with
  | ⟨0, _⟩ => exact (Nat.div_add_mod (y 0).val 16).symm
  | ⟨1, _⟩ => rfl
  | ⟨2, _⟩ => rfl

/-- Where the queries are finite and no denominator is zero, the reference's result of the kernel's arguments is the
    array the kernel leaves. -/
theorem results_meet (c : Dev nD)
    (hp : (Cert.Pre_regular.fn (F := Ideal) (m ((c.tc : Thread nD τ).loc main_arg0)) (m ((c.tc : Thread nD τ).loc main_arg1))
        (m ((c.tc : Thread nD τ).loc main_arg2))).1 = (fun _ => 1#1)
      ∧ (Cert.Pre_regular.fn (F := Ideal) (m ((c.tc : Thread nD τ).loc main_arg0)) (m ((c.tc : Thread nD τ).loc main_arg1))
        (m ((c.tc : Thread nD τ).loc main_arg2))).2 = (fun _ => 1#1)) :
    Cert.ReferenceIdeal.Read.val_main_v106 (F := Ideal) (m ((c.tc : Thread nD τ).loc main_arg0)) (m ((c.tc : Thread nD τ).loc main_arg1))
        (m ((c.tc : Thread nD τ).loc main_arg2))
      = (dats m 0 c).arrAt 3 cfg0.N := by
  funext y
  obtain ⟨b, h, s, d, hn, rfl⟩ := index_form y
  refine (result_apply _ _ _ b h s d hn).trans (Eq.trans (kval_eq_rval _ _ _ s d ?_ ?_).symm (final_apply m c b h s d hn).symm)
  · exact fun i => of_bit ((pre_fin _ _ _ b h s i).symm.trans (congrFun hp.1 (ix4 b h s i)))
  · exact fun i => of_bit ((pre_den _ _ _ b h s i).symm.trans (congrFun hp.2 (ix4 b h s i)))

end Obm
-- ==== Proof.lean ====
/-
  The five claims of the kernel: its three frames, the passage to its ideal form, and its value against the memory's
  definition.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Meet
public import Idealize.ShloMosaic.Adequacy
public import Idealize.ShloMosaic.Init

@[expose] public section

noncomputable section

namespace Cert.Proof

open Idealize.ShloMosaic Idealize.SL.Sem

/-- The reference runs, leaves its arguments unchanged and every counter at zero: it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- The value claim: under the precondition both programs return the array the kernel's launch leaves. -/
theorem value : Cert.algebraic_KernelIdeal_ReferenceIdeal_pre_regular := by
  intro m g m' g' hp ha
  refine ⟨fun c => (Cert.KernelIdeal.Gen.dats m 0 c).arrAt 3 Cert.KernelIdeal.cfg0.N,
    Cert.KernelIdeal.Value.run_blocks (F := Ideal) m g, ?_⟩
  refine (θ_run Cert.ReferenceIdeal.defs _ _).mono (fun _ h c => ⟨(h c).1.trans ?_, (h c).2⟩)
    (Cert.ReferenceIdeal.Value.run (F := Ideal) m' g')
  obtain ⟨e0, e1, e2⟩ := ha c
  rw [Cert.ReferenceIdeal.Read.val_main_v106_eq, e0, e1, e2]
  exact Obm.results_meet m c (hp c)

/-- Everything the certificate claims. -/
theorem claim : Cert.Claim :=
  ⟨Cert.Kernel.Gen.facts, Cert.KernelIdeal.Gen.facts, Cert.ReferenceIdeal.Gen.facts, Obm.preFacts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    value⟩

end Cert.Proof

end
